-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_regular [hPre_finite_and_regular : Cert.Pre_finite_and_regular.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_regular [hPre_finite_and_regular : Cert.Pre_finite_and_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_and_regular [hKernelIdeal : Cert.KernelIdeal.Facts] [hPre_finite_and_regular : Cert.Pre_finite_and_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_and_regular [hReferenceIdeal : Cert.ReferenceIdeal.Facts] [hPre_finite_and_regular : Cert.Pre_finite_and_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal_pre_finite_and_regular [hKernelIdeal : Cert.KernelIdeal.Facts] [hReferenceIdeal : Cert.ReferenceIdeal.Facts] [hPre_finite_and_regular : Cert.Pre_finite_and_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_and_regular : Cert.Pre_finite_and_regular.Facts),
    quiescent_Kernel (hKernel := hKernel)
    ∧ quiescent_KernelIdeal (hKernelIdeal := hKernelIdeal)
    ∧ quiescent_KernelIdeal_pre_finite_and_regular (hKernelIdeal := hKernelIdeal) (hPre_finite_and_regular := hPre_finite_and_regular)
    ∧ quiescent_ReferenceIdeal (hReferenceIdeal := hReferenceIdeal)
    ∧ quiescent_ReferenceIdeal_pre_finite_and_regular (hReferenceIdeal := hReferenceIdeal) (hPre_finite_and_regular := hPre_finite_and_regular)
    ∧ preserves_Kernel_KernelIdeal
    ∧ algebraic_KernelIdeal_ReferenceIdeal_pre_finite_and_regular (hKernelIdeal := hKernelIdeal) (hReferenceIdeal := hReferenceIdeal) (hPre_finite_and_regular := hPre_finite_and_regular)
-- ==== Pre_finite_and_regular.lean ====
abbrev S8x256x128x128 : Shape := ⟨4, ![8, 256, 128, 128]⟩
abbrev S128x256x3x3 : Shape := ⟨4, ![128, 256, 3, 3]⟩
abbrev S128 : Shape := ⟨1, ![128]⟩
abbrev S256x128x3x3 : Shape := ⟨4, ![256, 128, 3, 3]⟩
abbrev S256 : Shape := ⟨1, ![256]⟩
abbrev S256x256x1x1 : Shape := ⟨4, ![256, 256, 1, 1]⟩
abbrev S256x256x3x3 : Shape := ⟨4, ![256, 256, 3, 3]⟩
abbrev S_ : Shape := ⟨0, ![]⟩

class Facts : Prop where
  bcast_S_S8x256x128x128 : S_.BroadcastsInDim S8x256x128x128 (![] : Fin 0 → Fin S8x256x128x128.rank)
  bcast_S_S128x256x3x3 : S_.BroadcastsInDim S128x256x3x3 (![] : Fin 0 → Fin S128x256x3x3.rank)
  bcast_S_S256x128x3x3 : S_.BroadcastsInDim S256x128x3x3 (![] : Fin 0 → Fin S256x128x3x3.rank)
  bcast_S_S256x256x1x1 : S_.BroadcastsInDim S256x256x1x1 (![] : Fin 0 → Fin S256x256x1x1.rank)
  bcast_S_S256x256x3x3 : S_.BroadcastsInDim S256x256x3x3 (![] : Fin 0 → Fin S256x256x3x3.rank)
  bcast_S_S128 : S_.BroadcastsInDim S128 (![] : Fin 0 → Fin S128.rank)
  bcast_S_S256 : S_.BroadcastsInDim S256 (![] : Fin 0 → Fin S256.rank)

variable [Facts]

def fn_part5 {F : FTy → Type} [FloatOps F] (main_v2 : IVec S8x256x128x128 1) (main_v9 : IVec S128x256x3x3 1) (main_v12 : IVec S256x128x3x3 1) (main_v15 : IVec S256x256x1x1 1) (main_v18 : IVec S256x256x3x3 1) (main_v51 : IVec S128 1) (main_v76 : IVec S256 1) (main_v80 : IVec S256 1) (main_v84 : IVec S256 1) (main_v90 : IVec S256 1) : IVec S8x256x128x128 1 × IVec S128x256x3x3 1 × IVec S256x128x3x3 1 × IVec S256x256x1x1 1 × IVec S256x256x3x3 1 × IVec S128 1 × IVec S256 1 :=
  let main_v91 : IVec S256 1 := andi main_v90 main_v76
  let main_v92 : IVec S256 1 := andi main_v91 main_v80
  let main_v93 : IVec S256 1 := andi main_v92 main_v84
  (main_v2, main_v9, main_v12, main_v15, main_v18, main_v51, main_v93)

def fn_part4 {F : FTy → Type} [FloatOps F] (main_arg15 : FVec F S256 .f32) (main_arg20 : FVec F S256 .f32) (main_arg25 : FVec F S256 .f32) (main_v2 : IVec S8x256x128x128 1) (main_v9 : IVec S128x256x3x3 1) (main_v12 : IVec S256x128x3x3 1) (main_v15 : IVec S256x256x1x1 1) (main_v18 : IVec S256x256x3x3 1) (main_v51 : IVec S128 1) (main_v54 : IVec S256 1) (main_v57 : IVec S256 1) (main_v60 : IVec S256 1) (main_v63 : IVec S256 1) (main_v66 : IVec S256 1) (main_v69 : IVec S256 1) (main_v72 : IVec S256 1) : IVec S8x256x128x128 1 × IVec S128x256x3x3 1 × IVec S256x128x3x3 1 × IVec S256x256x1x1 1 × IVec S256x256x3x3 1 × IVec S128 1 × IVec S256 1 :=
  let main_cst_22 : FVec F S_ .f32 := constant S_ .f32 0x3A83126F#32
  let main_v73 : FVec F S256 .f32 := broadcastInDim S256 ![] bcast_S_S256 main_cst_22
  let main_v74 : FVec F S256 .f32 := addf main_arg15 main_v73
  let main_cst_23 : FVec F S_ .f32 := constant S_ .f32 0x00000000#32
  let main_v75 : FVec F S256 .f32 := broadcastInDim S256 ![] bcast_S_S256 main_cst_23
  let main_v76 : IVec S256 1 := cmpf .une main_v74 main_v75
  let main_cst_24 : FVec F S_ .f32 := constant S_ .f32 0x3A83126F#32
  let main_v77 : FVec F S256 .f32 := broadcastInDim S256 ![] bcast_S_S256 main_cst_24
  let main_v78 : FVec F S256 .f32 := addf main_arg20 main_v77
  let main_cst_25 : FVec F S_ .f32 := constant S_ .f32 0x00000000#32
  let main_v79 : FVec F S256 .f32 := broadcastInDim S256 ![] bcast_S_S256 main_cst_25
  let main_v80 : IVec S256 1 := cmpf .une main_v78 main_v79
  let main_cst_26 : FVec F S_ .f32 := constant S_ .f32 0x3A83126F#32
  let main_v81 : FVec F S256 .f32 := broadcastInDim S256 ![] bcast_S_S256 main_cst_26
  let main_v82 : FVec F S256 .f32 := addf main_arg25 main_v81
  let main_cst_27 : FVec F S_ .f32 := constant S_ .f32 0x00000000#32
  let main_v83 : FVec F S256 .f32 := broadcastInDim S256 ![] bcast_S_S256 main_cst_27
  let main_v84 : IVec S256 1 := cmpf .une main_v82 main_v83
  let main_v85 : IVec S256 1 := andi main_v54 main_v57
  let main_v86 : IVec S256 1 := andi main_v85 main_v60
  let main_v87 : IVec S256 1 := andi main_v86 main_v63
  let main_v88 : IVec S256 1 := andi main_v87 main_v66
  let main_v89 : IVec S256 1 := andi main_v88 main_v69
  let main_v90 : IVec S256 1 := andi main_v89 main_v72
  fn_part5 (F := F) main_v2 main_v9 main_v12 main_v15 main_v18 main_v51 main_v76 main_v80 main_v84 main_v90

def fn_part3 {F : FTy → Type} [FloatOps F] (main_arg13 : FVec F S256 .f32) (main_arg14 : FVec F S256 .f32) (main_arg15 : FVec F S256 .f32) (main_arg17 : FVec F S256 .f32) (main_arg18 : FVec F S256 .f32) (main_arg19 : FVec F S256 .f32) (main_arg20 : FVec F S256 .f32) (main_arg22 : FVec F S256 .f32) (main_arg25 : FVec F S256 .f32) (main_v2 : IVec S8x256x128x128 1) (main_v9 : IVec S128x256x3x3 1) (main_v12 : IVec S256x128x3x3 1) (main_v15 : IVec S256x256x1x1 1) (main_v18 : IVec S256x256x3x3 1) (main_v51 : IVec S128 1) (main_v54 : IVec S256 1) : IVec S8x256x128x128 1 × IVec S128x256x3x3 1 × IVec S256x128x3x3 1 × IVec S256x256x1x1 1 × IVec S256x256x3x3 1 × IVec S128 1 × IVec S256 1 :=
  let main_v55 : FVec F S256 .f32 := Host.absf main_arg13
  let main_cst_16 : FVec F S_ .f32 := constant S_ .f32 0x7F800000#32
  let main_v56 : FVec F S256 .f32 := broadcastInDim S256 ![] bcast_S_S256 main_cst_16
  let main_v57 : IVec S256 1 := cmpf .olt main_v55 main_v56
  let main_v58 : FVec F S256 .f32 := Host.absf main_arg14
  let main_cst_17 : FVec F S_ .f32 := constant S_ .f32 0x7F800000#32
  let main_v59 : FVec F S256 .f32 := broadcastInDim S256 ![] bcast_S_S256 main_cst_17
  let main_v60 : IVec S256 1 := cmpf .olt main_v58 main_v59
  let main_v61 : FVec F S256 .f32 := Host.absf main_arg17
  let main_cst_18 : FVec F S_ .f32 := constant S_ .f32 0x7F800000#32
  let main_v62 : FVec F S256 .f32 := broadcastInDim S256 ![] bcast_S_S256 main_cst_18
  let main_v63 : IVec S256 1 := cmpf .olt main_v61 main_v62
  let main_v64 : FVec F S256 .f32 := Host.absf main_arg18
  let main_cst_19 : FVec F S_ .f32 := constant S_ .f32 0x7F800000#32
  let main_v65 : FVec F S256 .f32 := broadcastInDim S256 ![] bcast_S_S256 main_cst_19
  let main_v66 : IVec S256 1 := cmpf .olt main_v64 main_v65
  let main_v67 : FVec F S256 .f32 := Host.absf main_arg19
  let main_cst_20 : FVec F S_ .f32 := constant S_ .f32 0x7F800000#32
  let main_v68 : FVec F S256 .f32 := broadcastInDim S256 ![] bcast_S_S256 main_cst_20
  let main_v69 : IVec S256 1 := cmpf .olt main_v67 main_v68
  let main_v70 : FVec F S256 .f32 := Host.absf main_arg22
  let main_cst_21 : FVec F S_ .f32 := constant S_ .f32 0x7F800000#32
  let main_v71 : FVec F S256 .f32 := broadcastInDim S256 ![] bcast_S_S256 main_cst_21
  let main_v72 : IVec S256 1 := cmpf .olt main_v70 main_v71
  fn_part4 (F := F) main_arg15 main_arg20 main_arg25 main_v2 main_v9 main_v12 main_v15 main_v18 main_v51 main_v54 main_v57 main_v60 main_v63 main_v66 main_v69 main_v72

def fn_part2 {F : FTy → Type} [FloatOps F] (main_arg5 : FVec F S128 .f32) (main_arg10 : FVec F S128 .f32) (main_arg12 : FVec F S256 .f32) (main_arg13 : FVec F S256 .f32) (main_arg14 : FVec F S256 .f32) (main_arg15 : FVec F S256 .f32) (main_arg17 : FVec F S256 .f32) (main_arg18 : FVec F S256 .f32) (main_arg19 : FVec F S256 .f32) (main_arg20 : FVec F S256 .f32) (main_arg22 : FVec F S256 .f32) (main_arg25 : FVec F S256 .f32) (main_v2 : IVec S8x256x128x128 1) (main_v9 : IVec S128x256x3x3 1) (main_v12 : IVec S256x128x3x3 1) (main_v15 : IVec S256x256x1x1 1) (main_v18 : IVec S256x256x3x3 1) (main_v21 : IVec S128 1) (main_v24 : IVec S128 1) (main_v27 : IVec S128 1) (main_v30 : IVec S128 1) (main_v33 : IVec S128 1) (main_v34 : FVec F S128 .f32) (main_v35 : FVec F S128 .f32) : IVec S8x256x128x128 1 × IVec S128x256x3x3 1 × IVec S256x128x3x3 1 × IVec S256x256x1x1 1 × IVec S256x256x3x3 1 × IVec S128 1 × IVec S256 1 :=
  let main_v36 : IVec S128 1 := cmpf .olt main_v34 main_v35
  let main_cst_11 : FVec F S_ .f32 := constant S_ .f32 0x3A83126F#32
  let main_v37 : FVec F S128 .f32 := broadcastInDim S128 ![] bcast_S_S128 main_cst_11
  let main_v38 : FVec F S128 .f32 := addf main_arg5 main_v37
  let main_cst_12 : FVec F S_ .f32 := constant S_ .f32 0x00000000#32
  let main_v39 : FVec F S128 .f32 := broadcastInDim S128 ![] bcast_S_S128 main_cst_12
  let main_v40 : IVec S128 1 := cmpf .une main_v38 main_v39
  let main_cst_13 : FVec F S_ .f32 := constant S_ .f32 0x3A83126F#32
  let main_v41 : FVec F S128 .f32 := broadcastInDim S128 ![] bcast_S_S128 main_cst_13
  let main_v42 : FVec F S128 .f32 := addf main_arg10 main_v41
  let main_cst_14 : FVec F S_ .f32 := constant S_ .f32 0x00000000#32
  let main_v43 : FVec F S128 .f32 := broadcastInDim S128 ![] bcast_S_S128 main_cst_14
  let main_v44 : IVec S128 1 := cmpf .une main_v42 main_v43
  let main_v45 : IVec S128 1 := andi main_v21 main_v24
  let main_v46 : IVec S128 1 := andi main_v45 main_v27
  let main_v47 : IVec S128 1 := andi main_v46 main_v30
  let main_v48 : IVec S128 1 := andi main_v47 main_v33
  let main_v49 : IVec S128 1 := andi main_v48 main_v36
  let main_v50 : IVec S128 1 := andi main_v49 main_v40
  let main_v51 : IVec S128 1 := andi main_v50 main_v44
  let main_v52 : FVec F S256 .f32 := Host.absf main_arg12
  let main_cst_15 : FVec F S_ .f32 := constant S_ .f32 0x7F800000#32
  let main_v53 : FVec F S256 .f32 := broadcastInDim S256 ![] bcast_S_S256 main_cst_15
  let main_v54 : IVec S256 1 := cmpf .olt main_v52 main_v53
  fn_part3 (F := F) main_arg13 main_arg14 main_arg15 main_arg17 main_arg18 main_arg19 main_arg20 main_arg22 main_arg25 main_v2 main_v9 main_v12 main_v15 main_v18 main_v51 main_v54

def fn_part1 {F : FTy → Type} [FloatOps F] (main_arg2 : FVec F S128 .f32) (main_arg3 : FVec F S128 .f32) (main_arg4 : FVec F S128 .f32) (main_arg5 : FVec F S128 .f32) (main_arg7 : FVec F S128 .f32) (main_arg8 : FVec F S128 .f32) (main_arg9 : FVec F S128 .f32) (main_arg10 : FVec F S128 .f32) (main_arg12 : FVec F S256 .f32) (main_arg13 : FVec F S256 .f32) (main_arg14 : FVec F S256 .f32) (main_arg15 : FVec F S256 .f32) (main_arg17 : FVec F S256 .f32) (main_arg18 : FVec F S256 .f32) (main_arg19 : FVec F S256 .f32) (main_arg20 : FVec F S256 .f32) (main_arg22 : FVec F S256 .f32) (main_arg25 : FVec F S256 .f32) (main_v2 : IVec S8x256x128x128 1) (main_v9 : IVec S128x256x3x3 1) (main_v12 : IVec S256x128x3x3 1) (main_v15 : IVec S256x256x1x1 1) (main_v16 : FVec F S256x256x3x3 .f32) (main_v17 : FVec F S256x256x3x3 .f32) : IVec S8x256x128x128 1 × IVec S128x256x3x3 1 × IVec S256x128x3x3 1 × IVec S256x256x1x1 1 × IVec S256x256x3x3 1 × IVec S128 1 × IVec S256 1 :=
  let main_v18 : IVec S256x256x3x3 1 := cmpf .olt main_v16 main_v17
  let main_v19 : FVec F S128 .f32 := Host.absf main_arg2
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  let main_v22 : FVec F S128 .f32 := Host.absf main_arg3
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  let main_v25 : FVec F S128 .f32 := Host.absf main_arg4
  let main_cst_7 : FVec F S_ .f32 := constant S_ .f32 0x7F800000#32
  let main_v26 : FVec F S128 .f32 := broadcastInDim S128 ![] bcast_S_S128 main_cst_7
  let main_v27 : IVec S128 1 := cmpf .olt main_v25 main_v26
  let main_v28 : FVec F S128 .f32 := Host.absf main_arg7
  let main_cst_8 : FVec F S_ .f32 := constant S_ .f32 0x7F800000#32
  let main_v29 : FVec F S128 .f32 := broadcastInDim S128 ![] bcast_S_S128 main_cst_8
  let main_v30 : IVec S128 1 := cmpf .olt main_v28 main_v29
  let main_v31 : FVec F S128 .f32 := Host.absf main_arg8
  let main_cst_9 : FVec F S_ .f32 := constant S_ .f32 0x7F800000#32
  let main_v32 : FVec F S128 .f32 := broadcastInDim S128 ![] bcast_S_S128 main_cst_9
  let main_v33 : IVec S128 1 := cmpf .olt main_v31 main_v32
  let main_v34 : FVec F S128 .f32 := Host.absf main_arg9
  let main_cst_10 : FVec F S_ .f32 := constant S_ .f32 0x7F800000#32
  let main_v35 : FVec F S128 .f32 := broadcastInDim S128 ![] bcast_S_S128 main_cst_10
  fn_part2 (F := F) main_arg5 main_arg10 main_arg12 main_arg13 main_arg14 main_arg15 main_arg17 main_arg18 main_arg19 main_arg20 main_arg22 main_arg25 main_v2 main_v9 main_v12 main_v15 main_v18 main_v21 main_v24 main_v27 main_v30 main_v33 main_v34 main_v35

def fn {F : FTy → Type} [FloatOps F] (main_arg0 : FVec F S8x256x128x128 .f32) (main_arg1 : FVec F S128x256x3x3 .f32) (main_arg2 : FVec F S128 .f32) (main_arg3 : FVec F S128 .f32) (main_arg4 : FVec F S128 .f32) (main_arg5 : FVec F S128 .f32) (main_arg6 : FVec F S128x256x3x3 .f32) (main_arg7 : FVec F S128 .f32) (main_arg8 : FVec F S128 .f32) (main_arg9 : FVec F S128 .f32) (main_arg10 : FVec F S128 .f32) (main_arg11 : FVec F S256x128x3x3 .f32) (main_arg12 : FVec F S256 .f32) (main_arg13 : FVec F S256 .f32) (main_arg14 : FVec F S256 .f32) (main_arg15 : FVec F S256 .f32) (main_arg16 : FVec F S256x256x1x1 .f32) (main_arg17 : FVec F S256 .f32) (main_arg18 : FVec F S256 .f32) (main_arg19 : FVec F S256 .f32) (main_arg20 : FVec F S256 .f32) (main_arg21 : FVec F S256x256x3x3 .f32) (main_arg22 : FVec F S256 .f32) (main_arg23 : FVec F S256 .f32) (main_arg24 : FVec F S256 .f32) (main_arg25 : FVec F S256 .f32) : IVec S8x256x128x128 1 × IVec S128x256x3x3 1 × IVec S256x128x3x3 1 × IVec S256x256x1x1 1 × IVec S256x256x3x3 1 × IVec S128 1 × IVec S256 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_v3 : FVec F S128x256x3x3 .f32 := Host.absf main_arg1
  let main_cst_0 : FVec F S_ .f32 := constant S_ .f32 0x7F800000#32
  let main_v4 : FVec F S128x256x3x3 .f32 := broadcastInDim S128x256x3x3 ![] bcast_S_S128x256x3x3 main_cst_0
  let main_v5 : IVec S128x256x3x3 1 := cmpf .olt main_v3 main_v4
  let main_v6 : FVec F S128x256x3x3 .f32 := Host.absf main_arg6
  let main_cst_1 : FVec F S_ .f32 := constant S_ .f32 0x7F800000#32
  let main_v7 : FVec F S128x256x3x3 .f32 := broadcastInDim S128x256x3x3 ![] bcast_S_S128x256x3x3 main_cst_1
  let main_v8 : IVec S128x256x3x3 1 := cmpf .olt main_v6 main_v7
  let main_v9 : IVec S128x256x3x3 1 := andi main_v5 main_v8
  let main_v10 : FVec F S256x128x3x3 .f32 := Host.absf main_arg11
  let main_cst_2 : FVec F S_ .f32 := constant S_ .f32 0x7F800000#32
  let main_v11 : FVec F S256x128x3x3 .f32 := broadcastInDim S256x128x3x3 ![] bcast_S_S256x128x3x3 main_cst_2
  let main_v12 : IVec S256x128x3x3 1 := cmpf .olt main_v10 main_v11
  let main_v13 : FVec F S256x256x1x1 .f32 := Host.absf main_arg16
  let main_cst_3 : FVec F S_ .f32 := constant S_ .f32 0x7F800000#32
  let main_v14 : FVec F S256x256x1x1 .f32 := broadcastInDim S256x256x1x1 ![] bcast_S_S256x256x1x1 main_cst_3
  let main_v15 : IVec S256x256x1x1 1 := cmpf .olt main_v13 main_v14
  let main_v16 : FVec F S256x256x3x3 .f32 := Host.absf main_arg21
  let main_cst_4 : FVec F S_ .f32 := constant S_ .f32 0x7F800000#32
  let main_v17 : FVec F S256x256x3x3 .f32 := broadcastInDim S256x256x3x3 ![] bcast_S_S256x256x3x3 main_cst_4
  fn_part1 (F := F) main_arg2 main_arg3 main_arg4 main_arg5 main_arg7 main_arg8 main_arg9 main_arg10 main_arg12 main_arg13 main_arg14 main_arg15 main_arg17 main_arg18 main_arg19 main_arg20 main_arg22 main_arg25 main_v2 main_v9 main_v12 main_v15 main_v16 main_v17
-- ==== Kernel.lean ====
abbrev S8x256x128x128 : Shape := ⟨4, ![8, 256, 128, 128]⟩
abbrev S128x256x3x3 : Shape := ⟨4, ![128, 256, 3, 3]⟩
abbrev S128 : Shape := ⟨1, ![128]⟩
abbrev S256x128x3x3 : Shape := ⟨4, ![256, 128, 3, 3]⟩
abbrev S256 : Shape := ⟨1, ![256]⟩
abbrev S256x256x1x1 : Shape := ⟨4, ![256, 256, 1, 1]⟩
abbrev S256x256x3x3 : Shape := ⟨4, ![256, 256, 3, 3]⟩
abbrev S8x128x128x256 : Shape := ⟨4, ![8, 128, 128, 256]⟩
abbrev S_ : Shape := ⟨0, ![]⟩
abbrev S8x130x130x256 : Shape := ⟨4, ![8, 130, 130, 256]⟩
abbrev S128x1x1x1 : Shape := ⟨4, ![128, 1, 1, 1]⟩
abbrev S3x3x256x128 : Shape := ⟨4, ![3, 3, 256, 128]⟩
abbrev S1x128 : Shape := ⟨2, ![1, 128]⟩
abbrev S3x3x256x256 : Shape := ⟨4, ![3, 3, 256, 256]⟩
abbrev S2304x256 : Shape := ⟨2, ![2304, 256]⟩
abbrev S1x256 : Shape := ⟨2, ![1, 256]⟩
abbrev S256x1x1x1 : Shape := ⟨4, ![256, 1, 1, 1]⟩
abbrev S3x3x128x256 : Shape := ⟨4, ![3, 3, 128, 256]⟩
abbrev S1152x256 : Shape := ⟨2, ![1152, 256]⟩
abbrev S1x1x256x256 : Shape := ⟨4, ![1, 1, 256, 256]⟩
abbrev S256x256 : Shape := ⟨2, ![256, 256]⟩
abbrev S8x128x128 : Shape := ⟨3, ![8, 128, 128]⟩
abbrev S1x130x130x256 : Shape := ⟨4, ![1, 130, 130, 256]⟩
abbrev S1x128x128 : Shape := ⟨3, ![1, 128, 128]⟩
abbrev S1x32x128 : Shape := ⟨3, ![1, 32, 128]⟩
abbrev S1x34x130x256 : Shape := ⟨4, ![1, 34, 130, 256]⟩
abbrev S34x130x256 : Shape := ⟨3, ![34, 130, 256]⟩
abbrev S32x128x256 : Shape := ⟨3, ![32, 128, 256]⟩
abbrev S32x128x2304 : Shape := ⟨3, ![32, 128, 2304]⟩
abbrev S4096x2304 : Shape := ⟨2, ![4096, 2304]⟩
abbrev S4096x256 : Shape := ⟨2, ![4096, 256]⟩
abbrev S32x128x128 : Shape := ⟨3, ![32, 128, 128]⟩
abbrev S128x128 : Shape := ⟨2, ![128, 128]⟩
abbrev S32x128 : Shape := ⟨2, ![32, 128]⟩
abbrev S8x132x128 : Shape := ⟨3, ![8, 132, 128]⟩
abbrev S1x132x128 : Shape := ⟨3, ![1, 132, 128]⟩
abbrev S1x32x128x256 : Shape := ⟨4, ![1, 32, 128, 256]⟩
abbrev S1x36x128 : Shape := ⟨3, ![1, 36, 128]⟩
abbrev S36x128 : Shape := ⟨2, ![36, 128]⟩
abbrev S36x1x1 : Shape := ⟨3, ![36, 1, 1]⟩
abbrev S129x128 : Shape := ⟨2, ![129, 128]⟩
abbrev S130x128 : Shape := ⟨2, ![130, 128]⟩
abbrev S1x130x1 : Shape := ⟨3, ![1, 130, 1]⟩
abbrev S36x1x128 : Shape := ⟨3, ![36, 1, 128]⟩
abbrev S1x130x128 : Shape := ⟨3, ![1, 130, 128]⟩
abbrev S36x130x128 : Shape := ⟨3, ![36, 130, 128]⟩
abbrev S36x130x1 : Shape := ⟨3, ![36, 130, 1]⟩
abbrev S34x128x128 : Shape := ⟨3, ![34, 128, 128]⟩
abbrev S34x128x1152 : Shape := ⟨3, ![34, 128, 1152]⟩
abbrev S4352x1152 : Shape := ⟨2, ![4352, 1152]⟩
abbrev S4352x256 : Shape := ⟨2, ![4352, 256]⟩
abbrev S1x34x128x256 : Shape := ⟨4, ![1, 34, 128, 256]⟩
abbrev S34x128x256 : Shape := ⟨3, ![34, 128, 256]⟩
abbrev S34x1x1 : Shape := ⟨3, ![34, 1, 1]⟩
abbrev S34x1x256 : Shape := ⟨3, ![34, 1, 256]⟩
abbrev S34x129x256 : Shape := ⟨3, ![34, 129, 256]⟩

abbrev nBuf : Space → Nat
  | .hbm => 109
  | .vmem => 22
  | .smem => 0
  | _ => 0

abbrev bufTy : (tb : Table) → Fin (tcTables nBuf tb) → BufTy
  | .hbm, ⟨0, _⟩ => ⟨S8x256x128x128, .f32⟩
  | .hbm, ⟨1, _⟩ => ⟨S128x256x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S256x128x3x3, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x256x1x1, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256x256x3x3, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S8x128x128x256, .f32⟩
  | .hbm, ⟨27, _⟩ => ⟨S8x128x128x256, .bf16⟩
  | .hbm, ⟨28, _⟩ => ⟨S_, .i32⟩
  | .hbm, ⟨29, _⟩ => ⟨S_, .bf16⟩
  | .hbm, ⟨30, _⟩ => ⟨S8x130x130x256, .bf16⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128x1x1x1, .f32⟩
  | .hbm, ⟨37, _⟩ => ⟨S128x256x3x3, .f32⟩
  | .hbm, ⟨38, _⟩ => ⟨S128x256x3x3, .f32⟩
  | .hbm, ⟨39, _⟩ => ⟨S3x3x256x128, .f32⟩
  | .hbm, ⟨40, _⟩ => ⟨S3x3x256x128, .bf16⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128x1x1x1, .f32⟩
  | .hbm, ⟨50, _⟩ => ⟨S128x256x3x3, .f32⟩
  | .hbm, ⟨51, _⟩ => ⟨S128x256x3x3, .f32⟩
  | .hbm, ⟨52, _⟩ => ⟨S3x3x256x128, .f32⟩
  | .hbm, ⟨53, _⟩ => ⟨S3x3x256x128, .bf16⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S3x3x256x256, .bf16⟩
  | .hbm, ⟨58, _⟩ => ⟨S2304x256, .bf16⟩
  | .hbm, ⟨59, _⟩ => ⟨S1x256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256x1x1x1, .f32⟩
  | .hbm, ⟨66, _⟩ => ⟨S256x128x3x3, .f32⟩
  | .hbm, ⟨67, _⟩ => ⟨S256x128x3x3, .f32⟩
  | .hbm, ⟨68, _⟩ => ⟨S3x3x128x256, .f32⟩
  | .hbm, ⟨69, _⟩ => ⟨S3x3x128x256, .bf16⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S1152x256, .bf16⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S256x1x1x1, .f32⟩
  | .hbm, ⟨80, _⟩ => ⟨S256x256x1x1, .f32⟩
  | .hbm, ⟨81, _⟩ => ⟨S256x256x1x1, .f32⟩
  | .hbm, ⟨82, _⟩ => ⟨S1x1x256x256, .f32⟩
  | .hbm, ⟨83, _⟩ => ⟨S1x1x256x256, .bf16⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S256x256, .bf16⟩
  | .hbm, ⟨88, _⟩ => ⟨S_, .f32⟩
  | .hbm, ⟨89, _⟩ => ⟨S256, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S256x1x1x1, .f32⟩
  | .hbm, ⟨94, _⟩ => ⟨S256x256x3x3, .f32⟩
  | .hbm, ⟨95, _⟩ => ⟨S256x256x3x3, .f32⟩
  | .hbm, ⟨96, _⟩ => ⟨S3x3x256x256, .f32⟩
  | .hbm, ⟨97, _⟩ => ⟨S3x3x256x256, .bf16⟩
  | .hbm, ⟨98, _⟩ => ⟨S256, .f32⟩
  | .hbm, ⟨99, _⟩ => ⟨S256, .f32⟩
  | .hbm, ⟨100, _⟩ => ⟨S1x256, .f32⟩
  | .hbm, ⟨101, _⟩ => ⟨S2304x256, .bf16⟩
  | .hbm, ⟨102, _⟩ => ⟨S8x128x128, .f32⟩
  | .hbm, ⟨103, _⟩ => ⟨S8x128x128, .f32⟩
  | .hbm, ⟨104, _⟩ => ⟨S_, .i32⟩
  | .hbm, ⟨105, _⟩ => ⟨S_, .f32⟩
  | .hbm, ⟨106, _⟩ => ⟨S8x132x128, .f32⟩
  | .hbm, ⟨107, _⟩ => ⟨S8x128x128x256, .f32⟩
  | .hbm, ⟨108, _⟩ => ⟨S8x256x128x128, .f32⟩
  | .local _ .vmem, ⟨0, _⟩ => ⟨S1x130x130x256, .bf16⟩
  | .local _ .vmem, ⟨1, _⟩ => ⟨S1x130x130x256, .bf16⟩
  | .local _ .vmem, ⟨2, _⟩ => ⟨S2304x256, .bf16⟩
  | .local _ .vmem, ⟨3, _⟩ => ⟨S1x256, .f32⟩
  | .local _ .vmem, ⟨4, _⟩ => ⟨S1x128x128, .f32⟩
  | .local _ .vmem, ⟨5, _⟩ => ⟨S1x128x128, .f32⟩
  | .local _ .vmem, ⟨6, _⟩ => ⟨S1x32x128, .f32⟩
  | .local _ .vmem, ⟨7, _⟩ => ⟨S1x32x128, .f32⟩
  | .local _ .vmem, ⟨8, _⟩ => ⟨S1x130x130x256, .bf16⟩
  | .local _ .vmem, ⟨9, _⟩ => ⟨S1x130x130x256, .bf16⟩
  | .local _ .vmem, ⟨10, _⟩ => ⟨S1x128x128, .f32⟩
  | .local _ .vmem, ⟨11, _⟩ => ⟨S1x128x128, .f32⟩
  | .local _ .vmem, ⟨12, _⟩ => ⟨S1x132x128, .f32⟩
  | .local _ .vmem, ⟨13, _⟩ => ⟨S1x132x128, .f32⟩
  | .local _ .vmem, ⟨14, _⟩ => ⟨S1152x256, .bf16⟩
  | .local _ .vmem, ⟨15, _⟩ => ⟨S1x256, .f32⟩
  | .local _ .vmem, ⟨16, _⟩ => ⟨S256x256, .bf16⟩
  | .local _ .vmem, ⟨17, _⟩ => ⟨S1x256, .f32⟩
  | .local _ .vmem, ⟨18, _⟩ => ⟨S2304x256, .bf16⟩
  | .local _ .vmem, ⟨19, _⟩ => ⟨S1x256, .f32⟩
  | .local _ .vmem, ⟨20, _⟩ => ⟨S1x32x128x256, .f32⟩
  | .local _ .vmem, ⟨21, _⟩ => ⟨S1x32x128x256, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_call0_v0 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_2 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_3 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69_0 : Ref sig .tc := ⟨.hbm, 102, rfl⟩
abbrev main_v69_1 : Ref sig .tc := ⟨.hbm, 103, rfl⟩
abbrev main_c_4 : Ref sig .tc := ⟨.hbm, 104, rfl⟩
abbrev main_call1_v0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let c0 : Index := 0#32
  let arg1 : BitVec 32 := BitVec.ofNat 32 (i 1).val
  let c32_i32 : BitVec 32 := 32#32
  let v0 : BitVec 32 := Scalar.muli arg1 c32_i32
  let v1 : Index := Scalar.indexCast v0
  let c0_0 : Index := 0#32
  let c0_1 : Index := 0#32
  ![0, v1.toNat, 0, 0]
def k0_cond1 (i : grid0.Coords) : BitVec 1 :=
  let arg1 : BitVec 32 := BitVec.ofNat 32 (i 1).val
  let c0_i32 : BitVec 32 := 0#32
  let v33 : BitVec 1 := Scalar.cmpi .eq arg1 c0_i32
  let v34 : BitVec 32 := Scalar.extui v33
  let c0_i32_12 : BitVec 32 := 0#32
  let v35 : BitVec 1 := Scalar.cmpi .ne v34 c0_i32_12
  v35

def k0_cond2 (i : grid0.Coords) : BitVec 1 :=
  let arg1 : BitVec 32 := BitVec.ofNat 32 (i 1).val
  let c0_i32_13 : BitVec 32 := 0#32
  let v36 : BitVec 1 := Scalar.cmpi .sgt arg1 c0_i32_13
  let v37 : BitVec 32 := Scalar.extui v36
  let c0_i32_14 : BitVec 32 := 0#32
  let v38 : BitVec 1 := Scalar.cmpi .ne v37 c0_i32_14
  v38

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x130x130x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def k1_off1 (i : grid1.Coords) : Fin 3 → Nat :=
  let c0 : Index := 0#32
  let arg1 : BitVec 32 := BitVec.ofNat 32 (i 1).val
  let c32_i32 : BitVec 32 := 32#32
  let v0 : BitVec 32 := Scalar.muli arg1 c32_i32
  let v1 : Index := Scalar.indexCast v0
  let c0_0 : Index := 0#32
  ![0, v1.toNat, 0]
def k1_off2 (i : grid1.Coords) : Fin 4 → Nat :=
  let c0_10 : Index := 0#32
  let arg1 : BitVec 32 := BitVec.ofNat 32 (i 1).val
  let c32_i32 : BitVec 32 := 32#32
  let v0 : BitVec 32 := Scalar.muli arg1 c32_i32
  let v60 : Index := Scalar.indexCast v0
  let c1 : Index := 1#32
  let c0_11 : Index := 0#32
  ![0, v60.toNat, 1, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x130x130x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x132x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1152x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2304x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x32x128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S8x256x128x128 : Shape := ⟨4, ![8, 256, 128, 128]⟩
abbrev S128x256x3x3 : Shape := ⟨4, ![128, 256, 3, 3]⟩
abbrev S128 : Shape := ⟨1, ![128]⟩
abbrev S256x128x3x3 : Shape := ⟨4, ![256, 128, 3, 3]⟩
abbrev S256 : Shape := ⟨1, ![256]⟩
abbrev S256x256x1x1 : Shape := ⟨4, ![256, 256, 1, 1]⟩
abbrev S256x256x3x3 : Shape := ⟨4, ![256, 256, 3, 3]⟩
abbrev S_ : Shape := ⟨0, ![]⟩
abbrev S8x256x130x130 : Shape := ⟨4, ![8, 256, 130, 130]⟩
abbrev S128x256x1x1 : Shape := ⟨4, ![128, 256, 1, 1]⟩
abbrev S128x256 : Shape := ⟨2, ![128, 256]⟩
abbrev S8x128x128x128 : Shape := ⟨4, ![8, 128, 128, 128]⟩
abbrev S1x128x1x1 : Shape := ⟨4, ![1, 128, 1, 1]⟩
abbrev S8x128x130x130 : Shape := ⟨4, ![8, 128, 130, 130]⟩
abbrev S256x128x1x1 : Shape := ⟨4, ![256, 128, 1, 1]⟩
abbrev S256x128 : Shape := ⟨2, ![256, 128]⟩
abbrev S8x128x128x256 : Shape := ⟨4, ![8, 128, 128, 256]⟩
abbrev S1x256x1x1 : Shape := ⟨4, ![1, 256, 1, 1]⟩
abbrev S256x256 : Shape := ⟨2, ![256, 256]⟩

abbrev nBuf : Space → Nat
  | .hbm => 354
  | .vmem => 0
  | .smem => 0
  | _ => 0

abbrev hbmTy0_0 (i : Nat) : BufTy := match i % 128 with
  | 0 => ⟨S8x256x128x128, .f32⟩
  | 1 => ⟨S128x256x3x3, .f32⟩
  | 2 => ⟨S128, .f32⟩
  | 3 => ⟨S128, .f32⟩
  | 4 => ⟨S128, .f32⟩
  | 5 => ⟨S128, .f32⟩
  | 6 => ⟨S128x256x3x3, .f32⟩
  | 7 => ⟨S128, .f32⟩
  | 8 => ⟨S128, .f32⟩
  | 9 => ⟨S128, .f32⟩
  | 10 => ⟨S128, .f32⟩
  | 11 => ⟨S256x128x3x3, .f32⟩
  | 12 => ⟨S256, .f32⟩
  | 13 => ⟨S256, .f32⟩
  | 14 => ⟨S256, .f32⟩
  | 15 => ⟨S256, .f32⟩
  | 16 => ⟨S256x256x1x1, .f32⟩
  | 17 => ⟨S256, .f32⟩
  | 18 => ⟨S256, .f32⟩
  | 19 => ⟨S256, .f32⟩
  | 20 => ⟨S256, .f32⟩
  | 21 => ⟨S256x256x3x3, .f32⟩
  | 22 => ⟨S256, .f32⟩
  | 23 => ⟨S256, .f32⟩
  | 24 => ⟨S256, .f32⟩
  | 25 => ⟨S256, .f32⟩
  | 26 => ⟨S_, .i32⟩
  | 27 => ⟨S_, .f32⟩
  | 28 => ⟨S8x256x130x130, .f32⟩
  | 29 => ⟨S128x256x1x1, .f32⟩
  | 30 => ⟨S128x256, .f32⟩
  | 31 => ⟨S8x256x128x128, .f32⟩
  | 32 => ⟨S8x128x128x128, .f32⟩
  | 33 => ⟨S8x128x128x128, .f32⟩
  | 34 => ⟨S128x256x1x1, .f32⟩
  | 35 => ⟨S128x256, .f32⟩
  | 36 => ⟨S8x256x128x128, .f32⟩
  | 37 => ⟨S8x128x128x128, .f32⟩
  | 38 => ⟨S8x128x128x128, .f32⟩
  | 39 => ⟨S8x128x128x128, .f32⟩
  | 40 => ⟨S128x256x1x1, .f32⟩
  | 41 => ⟨S128x256, .f32⟩
  | 42 => ⟨S8x256x128x128, .f32⟩
  | 43 => ⟨S8x128x128x128, .f32⟩
  | 44 => ⟨S8x128x128x128, .f32⟩
  | 45 => ⟨S8x128x128x128, .f32⟩
  | 46 => ⟨S128x256x1x1, .f32⟩
  | 47 => ⟨S128x256, .f32⟩
  | 48 => ⟨S8x256x128x128, .f32⟩
  | 49 => ⟨S8x128x128x128, .f32⟩
  | 50 => ⟨S8x128x128x128, .f32⟩
  | 51 => ⟨S8x128x128x128, .f32⟩
  | 52 => ⟨S128x256x1x1, .f32⟩
  | 53 => ⟨S128x256, .f32⟩
  | 54 => ⟨S8x256x128x128, .f32⟩
  | 55 => ⟨S8x128x128x128, .f32⟩
  | 56 => ⟨S8x128x128x128, .f32⟩
  | 57 => ⟨S8x128x128x128, .f32⟩
  | 58 => ⟨S128x256x1x1, .f32⟩
  | 59 => ⟨S128x256, .f32⟩
  | 60 => ⟨S8x256x128x128, .f32⟩
  | 61 => ⟨S8x128x128x128, .f32⟩
  | 62 => ⟨S8x128x128x128, .f32⟩
  | 63 => ⟨S8x128x128x128, .f32⟩
  | 64 => ⟨S128x256x1x1, .f32⟩
  | 65 => ⟨S128x256, .f32⟩
  | 66 => ⟨S8x256x128x128, .f32⟩
  | 67 => ⟨S8x128x128x128, .f32⟩
  | 68 => ⟨S8x128x128x128, .f32⟩
  | 69 => ⟨S8x128x128x128, .f32⟩
  | 70 => ⟨S128x256x1x1, .f32⟩
  | 71 => ⟨S128x256, .f32⟩
  | 72 => ⟨S8x256x128x128, .f32⟩
  | 73 => ⟨S8x128x128x128, .f32⟩
  | 74 => ⟨S8x128x128x128, .f32⟩
  | 75 => ⟨S8x128x128x128, .f32⟩
  | 76 => ⟨S128x256x1x1, .f32⟩
  | 77 => ⟨S128x256, .f32⟩
  | 78 => ⟨S8x256x128x128, .f32⟩
  | 79 => ⟨S8x128x128x128, .f32⟩
  | 80 => ⟨S8x128x128x128, .f32⟩
  | 81 => ⟨S8x128x128x128, .f32⟩
  | 82 => ⟨S1x128x1x1, .f32⟩
  | 83 => ⟨S8x128x128x128, .f32⟩
  | 84 => ⟨S8x128x128x128, .f32⟩
  | 85 => ⟨S1x128x1x1, .f32⟩
  | 86 => ⟨S1x128x1x1, .f32⟩
  | 87 => ⟨S_, .f32⟩
  | 88 => ⟨S1x128x1x1, .f32⟩
  | 89 => ⟨S1x128x1x1, .f32⟩
  | 90 => ⟨S1x128x1x1, .f32⟩
  | 91 => ⟨S1x128x1x1, .f32⟩
  | 92 => ⟨S8x128x128x128, .f32⟩
  | 93 => ⟨S8x128x128x128, .f32⟩
  | 94 => ⟨S1x128x1x1, .f32⟩
  | 95 => ⟨S8x128x128x128, .f32⟩
  | 96 => ⟨S8x128x128x128, .f32⟩
  | 97 => ⟨S_, .f32⟩
  | 98 => ⟨S8x128x128x128, .f32⟩
  | 99 => ⟨S8x128x128x128, .f32⟩
  | 100 => ⟨S_, .f32⟩
  | 101 => ⟨S_, .f32⟩
  | 102 => ⟨S8x128x128x128, .f32⟩
  | 103 => ⟨S_, .f32⟩
  | 104 => ⟨S_, .f32⟩
  | 105 => ⟨S8x128x128x128, .f32⟩
  | 106 => ⟨S_, .i32⟩
  | 107 => ⟨S_, .f32⟩
  | 108 => ⟨S8x256x130x130, .f32⟩
  | 109 => ⟨S128x256x1x1, .f32⟩
  | 110 => ⟨S128x256, .f32⟩
  | 111 => ⟨S8x256x128x128, .f32⟩
  | 112 => ⟨S8x128x128x128, .f32⟩
  | 113 => ⟨S8x128x128x128, .f32⟩
  | 114 => ⟨S128x256x1x1, .f32⟩
  | 115 => ⟨S128x256, .f32⟩
  | 116 => ⟨S8x256x128x128, .f32⟩
  | 117 => ⟨S8x128x128x128, .f32⟩
  | 118 => ⟨S8x128x128x128, .f32⟩
  | 119 => ⟨S8x128x128x128, .f32⟩
  | 120 => ⟨S128x256x1x1, .f32⟩
  | 121 => ⟨S128x256, .f32⟩
  | 122 => ⟨S8x256x128x128, .f32⟩
  | 123 => ⟨S8x128x128x128, .f32⟩
  | 124 => ⟨S8x128x128x128, .f32⟩
  | 125 => ⟨S8x128x128x128, .f32⟩
  | 126 => ⟨S128x256x1x1, .f32⟩
  | 127 => ⟨S128x256, .f32⟩
  | _ => ⟨S8x256x128x128, .f32⟩

abbrev hbmTy0_1 (i : Nat) : BufTy := match i % 128 with
  | 0 => ⟨S8x256x128x128, .f32⟩
  | 1 => ⟨S8x128x128x128, .f32⟩
  | 2 => ⟨S8x128x128x128, .f32⟩
  | 3 => ⟨S8x128x128x128, .f32⟩
  | 4 => ⟨S128x256x1x1, .f32⟩
  | 5 => ⟨S128x256, .f32⟩
  | 6 => ⟨S8x256x128x128, .f32⟩
  | 7 => ⟨S8x128x128x128, .f32⟩
  | 8 => ⟨S8x128x128x128, .f32⟩
  | 9 => ⟨S8x128x128x128, .f32⟩
  | 10 => ⟨S128x256x1x1, .f32⟩
  | 11 => ⟨S128x256, .f32⟩
  | 12 => ⟨S8x256x128x128, .f32⟩
  | 13 => ⟨S8x128x128x128, .f32⟩
  | 14 => ⟨S8x128x128x128, .f32⟩
  | 15 => ⟨S8x128x128x128, .f32⟩
  | 16 => ⟨S128x256x1x1, .f32⟩
  | 17 => ⟨S128x256, .f32⟩
  | 18 => ⟨S8x256x128x128, .f32⟩
  | 19 => ⟨S8x128x128x128, .f32⟩
  | 20 => ⟨S8x128x128x128, .f32⟩
  | 21 => ⟨S8x128x128x128, .f32⟩
  | 22 => ⟨S128x256x1x1, .f32⟩
  | 23 => ⟨S128x256, .f32⟩
  | 24 => ⟨S8x256x128x128, .f32⟩
  | 25 => ⟨S8x128x128x128, .f32⟩
  | 26 => ⟨S8x128x128x128, .f32⟩
  | 27 => ⟨S8x128x128x128, .f32⟩
  | 28 => ⟨S128x256x1x1, .f32⟩
  | 29 => ⟨S128x256, .f32⟩
  | 30 => ⟨S8x256x128x128, .f32⟩
  | 31 => ⟨S8x128x128x128, .f32⟩
  | 32 => ⟨S8x128x128x128, .f32⟩
  | 33 => ⟨S8x128x128x128, .f32⟩
  | 34 => ⟨S1x128x1x1, .f32⟩
  | 35 => ⟨S8x128x128x128, .f32⟩
  | 36 => ⟨S8x128x128x128, .f32⟩
  | 37 => ⟨S1x128x1x1, .f32⟩
  | 38 => ⟨S1x128x1x1, .f32⟩
  | 39 => ⟨S_, .f32⟩
  | 40 => ⟨S1x128x1x1, .f32⟩
  | 41 => ⟨S1x128x1x1, .f32⟩
  | 42 => ⟨S1x128x1x1, .f32⟩
  | 43 => ⟨S1x128x1x1, .f32⟩
  | 44 => ⟨S8x128x128x128, .f32⟩
  | 45 => ⟨S8x128x128x128, .f32⟩
  | 46 => ⟨S1x128x1x1, .f32⟩
  | 47 => ⟨S8x128x128x128, .f32⟩
  | 48 => ⟨S8x128x128x128, .f32⟩
  | 49 => ⟨S_, .f32⟩
  | 50 => ⟨S8x128x128x128, .f32⟩
  | 51 => ⟨S8x128x128x128, .f32⟩
  | 52 => ⟨S_, .f32⟩
  | 53 => ⟨S_, .f32⟩
  | 54 => ⟨S8x128x128x128, .f32⟩
  | 55 => ⟨S_, .f32⟩
  | 56 => ⟨S_, .f32⟩
  | 57 => ⟨S8x128x128x128, .f32⟩
  | 58 => ⟨S8x128x128x128, .f32⟩
  | 59 => ⟨S_, .i32⟩
  | 60 => ⟨S_, .f32⟩
  | 61 => ⟨S8x128x130x130, .f32⟩
  | 62 => ⟨S256x128x1x1, .f32⟩
  | 63 => ⟨S256x128, .f32⟩
  | 64 => ⟨S8x128x128x128, .f32⟩
  | 65 => ⟨S8x128x128x256, .f32⟩
  | 66 => ⟨S8x256x128x128, .f32⟩
  | 67 => ⟨S256x128x1x1, .f32⟩
  | 68 => ⟨S256x128, .f32⟩
  | 69 => ⟨S8x128x128x128, .f32⟩
  | 70 => ⟨S8x128x128x256, .f32⟩
  | 71 => ⟨S8x256x128x128, .f32⟩
  | 72 => ⟨S8x256x128x128, .f32⟩
  | 73 => ⟨S256x128x1x1, .f32⟩
  | 74 => ⟨S256x128, .f32⟩
  | 75 => ⟨S8x128x128x128, .f32⟩
  | 76 => ⟨S8x128x128x256, .f32⟩
  | 77 => ⟨S8x256x128x128, .f32⟩
  | 78 => ⟨S8x256x128x128, .f32⟩
  | 79 => ⟨S256x128x1x1, .f32⟩
  | 80 => ⟨S256x128, .f32⟩
  | 81 => ⟨S8x128x128x128, .f32⟩
  | 82 => ⟨S8x128x128x256, .f32⟩
  | 83 => ⟨S8x256x128x128, .f32⟩
  | 84 => ⟨S8x256x128x128, .f32⟩
  | 85 => ⟨S256x128x1x1, .f32⟩
  | 86 => ⟨S256x128, .f32⟩
  | 87 => ⟨S8x128x128x128, .f32⟩
  | 88 => ⟨S8x128x128x256, .f32⟩
  | 89 => ⟨S8x256x128x128, .f32⟩
  | 90 => ⟨S8x256x128x128, .f32⟩
  | 91 => ⟨S256x128x1x1, .f32⟩
  | 92 => ⟨S256x128, .f32⟩
  | 93 => ⟨S8x128x128x128, .f32⟩
  | 94 => ⟨S8x128x128x256, .f32⟩
  | 95 => ⟨S8x256x128x128, .f32⟩
  | 96 => ⟨S8x256x128x128, .f32⟩
  | 97 => ⟨S256x128x1x1, .f32⟩
  | 98 => ⟨S256x128, .f32⟩
  | 99 => ⟨S8x128x128x128, .f32⟩
  | 100 => ⟨S8x128x128x256, .f32⟩
  | 101 => ⟨S8x256x128x128, .f32⟩
  | 102 => ⟨S8x256x128x128, .f32⟩
  | 103 => ⟨S256x128x1x1, .f32⟩
  | 104 => ⟨S256x128, .f32⟩
  | 105 => ⟨S8x128x128x128, .f32⟩
  | 106 => ⟨S8x128x128x256, .f32⟩
  | 107 => ⟨S8x256x128x128, .f32⟩
  | 108 => ⟨S8x256x128x128, .f32⟩
  | 109 => ⟨S256x128x1x1, .f32⟩
  | 110 => ⟨S256x128, .f32⟩
  | 111 => ⟨S8x128x128x128, .f32⟩
  | 112 => ⟨S8x128x128x256, .f32⟩
  | 113 => ⟨S8x256x128x128, .f32⟩
  | 114 => ⟨S8x256x128x128, .f32⟩
  | 115 => ⟨S1x256x1x1, .f32⟩
  | 116 => ⟨S8x256x128x128, .f32⟩
  | 117 => ⟨S8x256x128x128, .f32⟩
  | 118 => ⟨S1x256x1x1, .f32⟩
  | 119 => ⟨S1x256x1x1, .f32⟩
  | 120 => ⟨S_, .f32⟩
  | 121 => ⟨S1x256x1x1, .f32⟩
  | 122 => ⟨S1x256x1x1, .f32⟩
  | 123 => ⟨S1x256x1x1, .f32⟩
  | 124 => ⟨S1x256x1x1, .f32⟩
  | 125 => ⟨S8x256x128x128, .f32⟩
  | 126 => ⟨S8x256x128x128, .f32⟩
  | 127 => ⟨S1x256x1x1, .f32⟩
  | _ => ⟨S8x256x128x128, .f32⟩

abbrev hbmTy0_2 (i : Nat) : BufTy := match i % 128 with
  | 0 => ⟨S8x256x128x128, .f32⟩
  | 1 => ⟨S8x256x128x128, .f32⟩
  | 2 => ⟨S256x256, .f32⟩
  | 3 => ⟨S8x128x128x256, .f32⟩
  | 4 => ⟨S8x256x128x128, .f32⟩
  | 5 => ⟨S1x256x1x1, .f32⟩
  | 6 => ⟨S8x256x128x128, .f32⟩
  | 7 => ⟨S8x256x128x128, .f32⟩
  | 8 => ⟨S1x256x1x1, .f32⟩
  | 9 => ⟨S1x256x1x1, .f32⟩
  | 10 => ⟨S_, .f32⟩
  | 11 => ⟨S1x256x1x1, .f32⟩
  | 12 => ⟨S1x256x1x1, .f32⟩
  | 13 => ⟨S1x256x1x1, .f32⟩
  | 14 => ⟨S1x256x1x1, .f32⟩
  | 15 => ⟨S8x256x128x128, .f32⟩
  | 16 => ⟨S8x256x128x128, .f32⟩
  | 17 => ⟨S1x256x1x1, .f32⟩
  | 18 => ⟨S8x256x128x128, .f32⟩
  | 19 => ⟨S8x256x128x128, .f32⟩
  | 20 => ⟨S8x256x128x128, .f32⟩
  | 21 => ⟨S_, .f32⟩
  | 22 => ⟨S8x256x128x128, .f32⟩
  | 23 => ⟨S8x256x128x128, .f32⟩
  | 24 => ⟨S_, .i32⟩
  | 25 => ⟨S_, .f32⟩
  | 26 => ⟨S8x256x130x130, .f32⟩
  | 27 => ⟨S256x256x1x1, .f32⟩
  | 28 => ⟨S256x256, .f32⟩
  | 29 => ⟨S8x256x128x128, .f32⟩
  | 30 => ⟨S8x128x128x256, .f32⟩
  | 31 => ⟨S8x256x128x128, .f32⟩
  | 32 => ⟨S256x256x1x1, .f32⟩
  | 33 => ⟨S256x256, .f32⟩
  | 34 => ⟨S8x256x128x128, .f32⟩
  | 35 => ⟨S8x128x128x256, .f32⟩
  | 36 => ⟨S8x256x128x128, .f32⟩
  | 37 => ⟨S8x256x128x128, .f32⟩
  | 38 => ⟨S256x256x1x1, .f32⟩
  | 39 => ⟨S256x256, .f32⟩
  | 40 => ⟨S8x256x128x128, .f32⟩
  | 41 => ⟨S8x128x128x256, .f32⟩
  | 42 => ⟨S8x256x128x128, .f32⟩
  | 43 => ⟨S8x256x128x128, .f32⟩
  | 44 => ⟨S256x256x1x1, .f32⟩
  | 45 => ⟨S256x256, .f32⟩
  | 46 => ⟨S8x256x128x128, .f32⟩
  | 47 => ⟨S8x128x128x256, .f32⟩
  | 48 => ⟨S8x256x128x128, .f32⟩
  | 49 => ⟨S8x256x128x128, .f32⟩
  | 50 => ⟨S256x256x1x1, .f32⟩
  | 51 => ⟨S256x256, .f32⟩
  | 52 => ⟨S8x256x128x128, .f32⟩
  | 53 => ⟨S8x128x128x256, .f32⟩
  | 54 => ⟨S8x256x128x128, .f32⟩
  | 55 => ⟨S8x256x128x128, .f32⟩
  | 56 => ⟨S256x256x1x1, .f32⟩
  | 57 => ⟨S256x256, .f32⟩
  | 58 => ⟨S8x256x128x128, .f32⟩
  | 59 => ⟨S8x128x128x256, .f32⟩
  | 60 => ⟨S8x256x128x128, .f32⟩
  | 61 => ⟨S8x256x128x128, .f32⟩
  | 62 => ⟨S256x256x1x1, .f32⟩
  | 63 => ⟨S256x256, .f32⟩
  | 64 => ⟨S8x256x128x128, .f32⟩
  | 65 => ⟨S8x128x128x256, .f32⟩
  | 66 => ⟨S8x256x128x128, .f32⟩
  | 67 => ⟨S8x256x128x128, .f32⟩
  | 68 => ⟨S256x256x1x1, .f32⟩
  | 69 => ⟨S256x256, .f32⟩
  | 70 => ⟨S8x256x128x128, .f32⟩
  | 71 => ⟨S8x128x128x256, .f32⟩
  | 72 => ⟨S8x256x128x128, .f32⟩
  | 73 => ⟨S8x256x128x128, .f32⟩
  | 74 => ⟨S256x256x1x1, .f32⟩
  | 75 => ⟨S256x256, .f32⟩
  | 76 => ⟨S8x256x128x128, .f32⟩
  | 77 => ⟨S8x128x128x256, .f32⟩
  | 78 => ⟨S8x256x128x128, .f32⟩
  | 79 => ⟨S8x256x128x128, .f32⟩
  | 80 => ⟨S1x256x1x1, .f32⟩
  | 81 => ⟨S8x256x128x128, .f32⟩
  | 82 => ⟨S8x256x128x128, .f32⟩
  | 83 => ⟨S1x256x1x1, .f32⟩
  | 84 => ⟨S1x256x1x1, .f32⟩
  | 85 => ⟨S_, .f32⟩
  | 86 => ⟨S1x256x1x1, .f32⟩
  | 87 => ⟨S1x256x1x1, .f32⟩
  | 88 => ⟨S1x256x1x1, .f32⟩
  | 89 => ⟨S1x256x1x1, .f32⟩
  | 90 => ⟨S8x256x128x128, .f32⟩
  | 91 => ⟨S8x256x128x128, .f32⟩
  | 92 => ⟨S1x256x1x1, .f32⟩
  | 93 => ⟨S8x256x128x128, .f32⟩
  | 94 => ⟨S8x256x128x128, .f32⟩
  | 95 => ⟨S_, .f32⟩
  | 96 => ⟨S8x256x128x128, .f32⟩
  | 97 => ⟨S8x256x128x128, .f32⟩
  | _ => ⟨S8x256x128x128, .f32⟩

abbrev hbmTy (i : Nat) : BufTy := match i / 128 with
  | 0 => hbmTy0_0 i
  | 1 => hbmTy0_1 i
  | 2 => hbmTy0_2 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_call0_v0 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_cst : Ref sig .tc := ⟨.hbm, 97, rfl⟩
abbrev main_call1_v0 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_call3_cst : Ref sig .tc := ⟨.hbm, 103, rfl⟩
abbrev main_call3_v0 : Ref sig .tc := ⟨.hbm, 104, rfl⟩
abbrev main_v70 : Ref sig .tc := ⟨.hbm, 105, rfl⟩
abbrev main_c_0 : Ref sig .tc := ⟨.hbm, 106, rfl⟩
abbrev main_call4_v0 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_1 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_call5_cst : Ref sig .tc := ⟨.hbm, 177, rfl⟩
abbrev main_call5_v0 : Ref sig .tc := ⟨.hbm, 178, rfl⟩
abbrev main_v139 : Ref sig .tc := ⟨.hbm, 179, rfl⟩
abbrev main_call6_cst : Ref sig .tc := ⟨.hbm, 180, rfl⟩
abbrev main_call6_v0 : Ref sig .tc := ⟨.hbm, 181, rfl⟩
abbrev main_v140 : Ref sig .tc := ⟨.hbm, 182, rfl⟩
abbrev main_call7_cst : Ref sig .tc := ⟨.hbm, 183, rfl⟩
abbrev main_call7_v0 : Ref sig .tc := ⟨.hbm, 184, rfl⟩
abbrev main_v141 : Ref sig .tc := ⟨.hbm, 185, rfl⟩
abbrev main_v142 : Ref sig .tc := ⟨.hbm, 186, rfl⟩
abbrev main_c_2 : Ref sig .tc := ⟨.hbm, 187, rfl⟩
abbrev main_call8_v0 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_3 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_cst_4 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_call9_cst : Ref sig .tc := ⟨.hbm, 277, rfl⟩
abbrev main_call9_v0 : Ref sig .tc := ⟨.hbm, 278, rfl⟩
abbrev main_v229 : Ref sig .tc := ⟨.hbm, 279, rfl⟩
abbrev main_c_5 : Ref sig .tc := ⟨.hbm, 280, rfl⟩
abbrev main_call10_v0 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_cst_6 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_call11_cst : Ref sig .tc := ⟨.hbm, 351, rfl⟩
abbrev main_call11_v0 : Ref sig .tc := ⟨.hbm, 352, rfl⟩
abbrev main_v298 : Ref sig .tc := ⟨.hbm, 353, rfl⟩

abbrev nD : Nat := 1
abbrev τ : Topo := Topo.v7x

variable {F : FTy → Type} [FloatOps F]
-- ==== Proof.KernelIdeal.Pool.lean ====
/-
  Region 0 of `KernelIdeal`, the pooling kernel, at any contents `V` of the TensorCore's buffers on entry: one grid point computes both
  pooling branches' convolutions for 32 rows of one image, keeps the running maximum over rows in output window 3 (started at
  the image's first tile, joined at the three others) and stores the maximum over columns into output window 4.
  Each case of the body is run once on any staging buffers; `outsAt0` is what the outputs hold after each point, and
  `body_obligation0` the body's obligation at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The condition of the body's first branch. -/
abbrev cond0_0 (i : grid0.Coords) : Prop := k0_cond1 i = 1#1
/-- The first condition holds at an image's first tile. -/
theorem hcond0_0 : ∀ t : Fin cfg0.N, cond0_0 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The condition of the body's second branch. -/
abbrev cond0_1 (i : grid0.Coords) : Prop := k0_cond2 i = 1#1
/-- The second condition holds at an image's later tiles. -/
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-! ## Where the body stores into the windows -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 4 is never idle (an output stored into at every point). -/
theorem liveAt0_4 : ∀ t : Fin cfg0.N, cfg0.idle 4 (grid0.coords t) = false := fun _ => rfl
/-- Whether output 3's buffer is fresh, holding nothing that the body stored since the image's first tile, at each position: it is at every
    fourth. -/
def freshTab0_3 : ℕ → Bool
  | 0 => true
  | n + 1 => (0x88888888 : ℕ).testBit n
/-- The table follows the pipeline's own rule from each point to the next. -/
theorem freshTab0_3_step : ∀ t : Fin cfg0.N,
    freshTab0_3 (t.val + 1) = ((cfg0.win 3).flush t || (cfg0.idle 3 (cfg0.grid.coords t) && freshTab0_3 t.val)) := by decide +kernel
/-- The table is the pipeline's. -/
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- Case A stores into output 3. -/
theorem liveAt0_3_A : ∀ t : Fin cfg0.N, cond0_0 (grid0.coords t) → ¬cond0_1 (grid0.coords t) → cfg0.idle 3 (grid0.coords t) = false := by decide +kernel
/-- Case B stores into output 3. -/
theorem liveAt0_3_B : ∀ t : Fin cfg0.N, ¬cond0_0 (grid0.coords t) → cond0_1 (grid0.coords t) → cfg0.idle 3 (grid0.coords t) = false := by decide +kernel
/-- At a later tile output 3's buffer is not fresh. -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging buffers -/

/-- One staging buffer of output window 3, through which its contents are stated; the choice does not matter. -/
abbrev VO0_3 : View sig .tc .vmem S1x128x128 .f32 := (Memref.whole cc0_stg3_0 : Memref sig .tc .vmem S1x128x128 .f32).view
/-- One staging buffer of output window 4, through which its contents are stated; the choice does not matter. -/
abbrev VO0_4 : View sig .tc .vmem S1x32x128 .f32 := (Memref.whole cc0_stg4_0 : Memref sig .tc .vmem S1x32x128 .f32).view
/-- Window 0's staging buffer at point `t`. -/
abbrev ms0_0 (t : Fin cfg0.N) : Memref sig .tc .vmem S1x130x130x256 .bf16 := win0_0.stage (cfg0.slots t 0)
/-- It is a whole buffer. -/
abbrev hs0_0 (t : Fin cfg0.N) : (ms0_0 t).IsWhole := hstage0_0 ((cfg0.slots t 0).cast nbuf0_0)
/-- Window 1's staging buffer at point `t`. -/
abbrev ms0_1 (t : Fin cfg0.N) : Memref sig .tc .vmem S2304x256 .bf16 := win0_1.stage (cfg0.slots t 1)
/-- It is a whole buffer. -/
abbrev hs0_1 (t : Fin cfg0.N) : (ms0_1 t).IsWhole := hstage0_1 ((cfg0.slots t 1).cast nbuf0_1)
/-- Window 2's staging buffer at point `t`. -/
abbrev ms0_2 (t : Fin cfg0.N) : Memref sig .tc .vmem S1x256 .f32 := win0_2.stage (cfg0.slots t 2)
/-- It is a whole buffer. -/
abbrev hs0_2 (t : Fin cfg0.N) : (ms0_2 t).IsWhole := hstage0_2 ((cfg0.slots t 2).cast nbuf0_2)
/-- Window 3's staging buffer at point `t`. -/
abbrev ms0_3 (t : Fin cfg0.N) : Memref sig .tc .vmem S1x128x128 .f32 := win0_3.stage (cfg0.slots t 3)
/-- It is a whole buffer. -/
abbrev hs0_3 (t : Fin cfg0.N) : (ms0_3 t).IsWhole := hstage0_3 ((cfg0.slots t 3).cast nbuf0_3)
/-- Window 4's staging buffer at point `t`. -/
abbrev ms0_4 (t : Fin cfg0.N) : Memref sig .tc .vmem S1x32x128 .f32 := win0_4.stage (cfg0.slots t 4)
/-- It is a whole buffer. -/
abbrev hs0_4 (t : Fin cfg0.N) : (ms0_4 t).IsWhole := hstage0_4 ((cfg0.slots t 4).cast nbuf0_4)

set_option maxHeartbeats 1000000 in
/-- CASE A, an image's first tile: the list of what the body stores into each output's buffer (last first), with the proof that from
    input buffers at any contents and output buffers at anything the body runs, keeps the inputs and writes those lists. -/
noncomputable def kernelRun0_A (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : cond0_0 i) (hc1 : ¬cond0_1 i)
    (x0 : Vec F S1x130x130x256 .bf16) (x1 : Vec F S2304x256 .bf16) (x2 : Vec F S1x256 .f32) :
    Σ' (L3 : List (View.Piece (Elt F) S1x128x128 .f32)), { L4 : List (View.Piece (Elt F) S1x32x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__k1 i arg2 harg2 arg3 harg3 arg4 harg4 arg5 harg5 arg6 harg6) K } := by
  refine ⟨?_, ?_, fun E K => ?run⟩
  case run =>
    simp only [cc0__k1_eq_skeleton]; unfold cc0__k1_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

set_option maxHeartbeats 1000000 in
/-- CASE B, a later tile of an image: the same, where output 3's buffer holds the running maximum `xo3`, which the body reads before it
    stores. -/
noncomputable def kernelRun0_B (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : ¬cond0_0 i) (hc1 : cond0_1 i)
    (x0 : Vec F S1x130x130x256 .bf16) (x1 : Vec F S2304x256 .bf16) (x2 : Vec F S1x256 .f32) (xo3 : Vec F S1x128x128 .f32) :
    Σ' (L3 : List (View.Piece (Elt F) S1x128x128 .f32)), { L4 : List (View.Piece (Elt F) S1x32x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__k1 i arg2 harg2 arg3 harg3 arg4 harg4 arg5 harg5 arg6 harg6) K } := by
  refine ⟨?_, ?_, fun E K => ?run⟩
  case run =>
    simp only [cc0__k1_eq_skeleton]; unfold cc0__k1_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's stores into output 3 cover its block. -/
theorem cover0_A_3 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : cond0_0 i) (hc1 : ¬cond0_1 i)
    (x0 : Vec F S1x130x130x256 .bf16) (x1 : Vec F S2304x256 .bf16) (x2 : Vec F S1x256 .f32) (y : S1x128x128.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1x128x128.size (by sl_kernel_rfl) y

/-- What case A leaves in output 3's staging buffer. -/
def out0_A_3 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : cond0_0 i) (hc1 : ¬cond0_1 i)
    (x0 : Vec F S1x130x130x256 .bf16) (x1 : Vec F S2304x256 .bf16) (x2 : Vec F S1x256 .f32) : Vec F S1x128x128 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into output 4 cover its block. -/
theorem cover0_A_4 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : cond0_0 i) (hc1 : ¬cond0_1 i)
    (x0 : Vec F S1x130x130x256 .bf16) (x1 : Vec F S2304x256 .bf16) (x2 : Vec F S1x256 .f32) (y : S1x32x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x32x128.size (by sl_kernel_rfl) y

/-- What case A leaves in output 4's staging buffer. -/
def out0_A_4 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : cond0_0 i) (hc1 : ¬cond0_1 i)
    (x0 : Vec F S1x130x130x256 .bf16) (x1 : Vec F S2304x256 .bf16) (x2 : Vec F S1x256 .f32) : Vec F S1x32x128 .f32 :=
  VO0_4.read (Elt F) (VO0_4.writes (Elt F) VO0_4.junk (kernelRun0_A c i arg2 harg2 arg3 harg3 arg4 harg4 arg5 harg5 arg6 harg6 hc0 hc1 x0 x1 x2).2.1)

/-- Case B's stores into output 3 cover its block. -/
theorem cover0_B_3 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : ¬cond0_0 i) (hc1 : cond0_1 i)
    (x0 : Vec F S1x130x130x256 .bf16) (x1 : Vec F S2304x256 .bf16) (x2 : Vec F S1x256 .f32) (xo3 : Vec F S1x128x128 .f32) (y : S1x128x128.Idx) :
    ∃ pc ∈ (kernelRun0_B c i arg2 harg2 arg3 harg3 arg4 harg4 arg5 harg5 arg6 harg6 hc0 hc1 x0 x1 x2 xo3).1, y ∈ pc.1.set :=
  View.cover_of_tiledL (kernelRun0_B c i arg2 harg2 arg3 harg3 arg4 harg4 arg5 harg5 arg6 harg6 hc0 hc1 x0 x1 x2 xo3).1 S1x128x128.size (by sl_kernel_rfl) y

/-- What case B leaves in output 3's staging buffer. -/
def out0_B_3 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : ¬cond0_0 i) (hc1 : cond0_1 i)
    (x0 : Vec F S1x130x130x256 .bf16) (x1 : Vec F S2304x256 .bf16) (x2 : Vec F S1x256 .f32) (xo3 : Vec F S1x128x128 .f32) : Vec F S1x128x128 .f32 :=
  VO0_3.read (Elt F) (VO0_3.writes (Elt F) VO0_3.junk (kernelRun0_B c i arg2 harg2 arg3 harg3 arg4 harg4 arg5 harg5 arg6 harg6 hc0 hc1 x0 x1 x2 xo3).1)

/-- Case B's stores into output 4 cover its block. -/
theorem cover0_B_4 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : ¬cond0_0 i) (hc1 : cond0_1 i)
    (x0 : Vec F S1x130x130x256 .bf16) (x1 : Vec F S2304x256 .bf16) (x2 : Vec F S1x256 .f32) (xo3 : Vec F S1x128x128 .f32) (y : S1x32x128.Idx) :
    ∃ pc ∈ (kernelRun0_B c i arg2 harg2 arg3 harg3 arg4 harg4 arg5 harg5 arg6 harg6 hc0 hc1 x0 x1 x2 xo3).2.1, y ∈ pc.1.set :=
  View.cover_of_tiledL (kernelRun0_B c i arg2 harg2 arg3 harg3 arg4 harg4 arg5 harg5 arg6 harg6 hc0 hc1 x0 x1 x2 xo3).2.1 S1x32x128.size (by sl_kernel_rfl) y

/-- What case B leaves in output 4's staging buffer. -/
def out0_B_4 (c : Dev nD) (i : grid0.Coords) (arg2 : Memref sig .tc .vmem S1x130x130x256 .bf16) (harg2 : arg2.IsWhole) (arg3 : Memref sig .tc .vmem S2304x256 .bf16) (harg3 : arg3.IsWhole) (arg4 : Memref sig .tc .vmem S1x256 .f32) (harg4 : arg4.IsWhole) (arg5 : Memref sig .tc .vmem S1x128x128 .f32) (harg5 : arg5.IsWhole) (arg6 : Memref sig .tc .vmem S1x32x128 .f32) (harg6 : arg6.IsWhole) (hc0 : ¬cond0_0 i) (hc1 : cond0_1 i)
    (x0 : Vec F S1x130x130x256 .bf16) (x1 : Vec F S2304x256 .bf16) (x2 : Vec F S1x256 .f32) (xo3 : Vec F S1x128x128 .f32) : Vec F S1x32x128 .f32 :=
  VO0_4.read (Elt F) (VO0_4.writes (Elt F) VO0_4.junk (kernelRun0_B c i arg2 harg2 arg3 harg3 arg4 harg4 arg5 harg5 arg6 harg6 hc0 hc1 x0 x1 x2 xo3).2.1)

/-! ## What the outputs hold after each point -/

/-- THE ACCUMULATION. What the two outputs' buffers hold after the body at position `n`: at an image's first tile what case A leaves, at a
    later one what case B leaves over what output 3 held after the tile before. -/
def outsAt0 (c : Dev nD) : (n : ℕ) → n < cfg0.N → Vec F S1x128x128 .f32 × Vec F S1x32x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : 1 ≤ (n + 1) % 4 then
        False.elim (by have hN : n + 1 < 32 := lt_of_lt_of_eq hn (show cfg0.N = 32 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : 1 ≤ (n + 1) % 4 then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 4 = 0) (h1 : ¬1 ≤ t.val % 4) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : 1 ≤ t.val % 4) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).1, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at point `t` each input's buffer
    at its block and each output's at `outsAt0`; beside them the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the contents on entry. -/
theorem A_eq0 (c : Dev nD) (w : Fin cfg0.W) : (dat0 V c).A w = V c (Pipeline.arrRef spec0 w) := by
  dsimp only [dat0]

/-- The body leaves window 0's buffer at its block. -/
theorem after0_0 (c : Dev nD) (t : Fin cfg0.N) : (dat0 V c).after 0 t = iblk0 V c 0 t := by dsimp only [dat0]
/-- The body leaves window 1's buffer at its block. -/
theorem after0_1 (c : Dev nD) (t : Fin cfg0.N) : (dat0 V c).after 1 t = iblk0 V c 1 t := by dsimp only [dat0]
/-- The body leaves window 2's buffer at its block. -/
theorem after0_2 (c : Dev nD) (t : Fin cfg0.N) : (dat0 V c).after 2 t = iblk0 V c 2 t := by dsimp only [dat0]
/-- The body leaves window 3's buffer at what the run leaves. -/
theorem after0_3 (c : Dev nD) (t : Fin cfg0.N) : (dat0 V c).after 3 t = (outsAt0 V c t.val t.isLt).1 := by dsimp only [dat0]
/-- The body leaves window 4's buffer at what the run leaves. -/
theorem after0_4 (c : Dev nD) (t : Fin cfg0.N) : (dat0 V c).after 4 t = (outsAt0 V c t.val t.isLt).2 := by dsimp only [dat0]

/-- The staging buffer of an uncut input window holds its block `blk t` at every point, whether it was fetched there or kept from the point
    before: the body leaves it in place (`hafter`). -/
theorem before0_of (c : Dev nD) (w : Fin cfg0.W) (hin : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (blk : Fin cfg0.N → (cfg0.win w).block.Idx → Elt F (cfg0.win w).elt)
    (hcut : ∀ t, (cfg0.win w).cut (cfg0.grid.coords t) (blk t) = iblk0 V c w t)
    (hfill : ∀ t d, (cfg0.win w).fill (cfg0.grid.coords t) d (iblk0 V c w t) = blk t)
    (hafter : ∀ t, (dat0 V c).after w t = blk t) (t : Fin cfg0.N) (d) : (dat0 V c).before w t d = blk t :=
  have hA : ∀ t, (dat0 V c).blockOf w t = iblk0 V c w t := fun t => by unfold Dat.blockOf iblk0; rw [A_eq0]
  ((dat0 V c).before_in_eq_fetched w hin hlive hclip (fun t => by rw [hafter, hcut, hA]) t d).trans
    (by unfold Dat.fetched; rw [hA, hfill])

/-- Input 0's staging buffer holds its block at every point. -/
theorem before0_0 (c : Dev nD) (t : Fin cfg0.N) (d) : (dat0 V c).before 0 t d = iblk0 V c 0 t :=
  before0_of V c 0 rfl (fun _ => rfl) (fun _ _ _ => rfl) (fun t => iblk0 V c 0 t) (fun _ => rfl) (fun _ _ => rfl) (after0_0 V c) t d
/-- Input 1's staging buffer holds its block at every point. -/
theorem before0_1 (c : Dev nD) (t : Fin cfg0.N) (d) : (dat0 V c).before 1 t d = iblk0 V c 1 t :=
  before0_of V c 1 rfl (fun _ => rfl) (fun _ _ _ => rfl) (fun t => iblk0 V c 1 t) (fun _ => rfl) (fun _ _ => rfl) (after0_1 V c) t d
/-- Input 2's staging buffer holds its block at every point. -/
theorem before0_2 (c : Dev nD) (t : Fin cfg0.N) (d) : (dat0 V c).before 2 t d = iblk0 V c 2 t :=
  before0_of V c 2 rfl (fun _ => rfl) (fun _ _ _ => rfl) (fun t => iblk0 V c 2 t) (fun _ => rfl) (fun _ _ => rfl) (after0_2 V c) t d

/-- Where the body stores nothing into output 3 its contents carry over; there is no such point. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 32 := lt_of_lt_of_eq t.isLt (show cfg0.N = 32 from N_0)
  rw [after0_3, after0_3]
  by_cases h0 : t.val % 4 = 0
  · by_cases h1 : 1 ≤ t.val % 4
    · exfalso; omega
    · rw [liveAt0_3_A t ((hcond0_0 t).mpr h0) (fun h => h1 ((hcond0_1 t).mp h))] at hi
      exact absurd hi Bool.false_ne_true
  · by_cases h1 : 1 ≤ t.val % 4
    · rw [liveAt0_3_B t (fun h => h0 ((hcond0_0 t).mp h)) ((hcond0_1 t).mpr h1)] at hi
      exact absurd hi Bool.false_ne_true
    · exfalso; omega
/-- At a later tile output 3's buffer holds what the tile before left. -/
theorem before0_3_B (c : Dev nD) (t : Fin cfg0.N) (h0 : ¬t.val % 4 = 0) (h1 : 1 ≤ t.val % 4) (d) :
    (dat0 V c).before 3 t d = (outsAt0 V c (t.val - 1) (Nat.lt_of_le_of_lt (Nat.sub_le _ _) t.isLt)).1 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t`, window by window. -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body returns at point `t`. -/
def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- What the body must leave in a window that it stores into, or that is an input, at point `t`. -/
theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 800000 in
/-- The body at any point: the inputs hold their blocks, so the run of the point's case applies; in the later tiles output 3 holds what the
    point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 32 := lt_of_lt_of_eq t.isLt (show cfg0.N = 32 from N_0)
  by_cases h0 : t.val % 4 = 0
  · by_cases h1 : 1 ≤ t.val % 4
    · exfalso; omega
    · rw [leaves0 V c 0 t (liveAt0_0 t), leaves0 V c 1 t (liveAt0_1 t), leaves0 V c 2 t (liveAt0_2 t),
        leaves0 V c 3 t (liveAt0_3_A t ((hcond0_0 t).mpr h0) (fun h => h1 ((hcond0_1 t).mp h))), leaves0 V c 4 t (liveAt0_4 t),
        after0_0, after0_1, after0_2, after0_3, after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val % 4
    · rw [leaves0 V c 0 t (liveAt0_0 t), leaves0 V c 1 t (liveAt0_1 t), leaves0 V c 2 t (liveAt0_2 t),
        leaves0 V c 3 t (liveAt0_3_B t (fun h => h0 ((hcond0_0 t).mp h)) ((hcond0_1 t).mpr h1)), leaves0 V c 4 t (liveAt0_4 t),
        after0_0, after0_1, after0_2, after0_3, after0_4]
      rw [outsAt0_B V c t h0 h1]
      simp only [before0_3_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _)
    · exfalso; omega

/-- The body that the pipeline calls at point `t` is `bodyAt0 t`. -/
theorem defs₀_row0 (t : Fin cfg0.N) :
    defs₀ (F := F) .tc cfg0.body (cfg0.bodyArgs t (cfg0.slots t)) = bodyAt0 t := by
  unfold defs₀; rw [Defs.onTc_tc]

/-- The pipeline's obligation on its body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.Conv.lean ====
/-
  Region 1 of `KernelIdeal`, the second kernel, at any contents `V` of the TensorCore's buffers on entry: one grid point adds the two
  pooled branches for 36 rows, convolves, adds the shortcut's pointwise convolution, and convolves again into 32 rows of the
  output. The body is run once on any staging buffers; `body_obligation1` is its obligation at every point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The kernel body on any staging buffers -/

/-- One staging buffer of output window 9, through which its contents are stated; the choice does not matter. -/
abbrev VO1_9 : View sig .tc .vmem S1x32x128x256 .f32 := (Memref.whole cc1_stg9_0 : Memref sig .tc .vmem S1x32x128x256 .f32).view
/-- Window 0's staging buffer at point `t`. -/
abbrev ms1_0 (t : Fin cfg1.N) : Memref sig .tc .vmem S1x130x130x256 .bf16 := win1_0.stage (cfg1.slots t 0)
/-- It is a whole buffer. -/
abbrev hs1_0 (t : Fin cfg1.N) : (ms1_0 t).IsWhole := hstage1_0 ((cfg1.slots t 0).cast nbuf1_0)
/-- Window 1's staging buffer at point `t`. -/
abbrev ms1_1 (t : Fin cfg1.N) : Memref sig .tc .vmem S1x128x128 .f32 := win1_1.stage (cfg1.slots t 1)
/-- It is a whole buffer. -/
abbrev hs1_1 (t : Fin cfg1.N) : (ms1_1 t).IsWhole := hstage1_1 ((cfg1.slots t 1).cast nbuf1_1)
/-- Window 2's staging buffer at point `t`. -/
abbrev ms1_2 (t : Fin cfg1.N) : Memref sig .tc .vmem S1x132x128 .f32 := win1_2.stage (cfg1.slots t 2)
/-- It is a whole buffer. -/
abbrev hs1_2 (t : Fin cfg1.N) : (ms1_2 t).IsWhole := hstage1_2 ((cfg1.slots t 2).cast nbuf1_2)
/-- Window 3's staging buffer at point `t`. -/
abbrev ms1_3 (t : Fin cfg1.N) : Memref sig .tc .vmem S1152x256 .bf16 := win1_3.stage (cfg1.slots t 3)
/-- It is a whole buffer. -/
abbrev hs1_3 (t : Fin cfg1.N) : (ms1_3 t).IsWhole := hstage1_3 ((cfg1.slots t 3).cast nbuf1_3)
/-- Window 4's staging buffer at point `t`. -/
abbrev ms1_4 (t : Fin cfg1.N) : Memref sig .tc .vmem S1x256 .f32 := win1_4.stage (cfg1.slots t 4)
/-- It is a whole buffer. -/
abbrev hs1_4 (t : Fin cfg1.N) : (ms1_4 t).IsWhole := hstage1_4 ((cfg1.slots t 4).cast nbuf1_4)
/-- Window 5's staging buffer at point `t`. -/
abbrev ms1_5 (t : Fin cfg1.N) : Memref sig .tc .vmem S256x256 .bf16 := win1_5.stage (cfg1.slots t 5)
/-- It is a whole buffer. -/
abbrev hs1_5 (t : Fin cfg1.N) : (ms1_5 t).IsWhole := hstage1_5 ((cfg1.slots t 5).cast nbuf1_5)
/-- Window 6's staging buffer at point `t`. -/
abbrev ms1_6 (t : Fin cfg1.N) : Memref sig .tc .vmem S1x256 .f32 := win1_6.stage (cfg1.slots t 6)
/-- It is a whole buffer. -/
abbrev hs1_6 (t : Fin cfg1.N) : (ms1_6 t).IsWhole := hstage1_6 ((cfg1.slots t 6).cast nbuf1_6)
/-- Window 7's staging buffer at point `t`. -/
abbrev ms1_7 (t : Fin cfg1.N) : Memref sig .tc .vmem S2304x256 .bf16 := win1_7.stage (cfg1.slots t 7)
/-- It is a whole buffer. -/
abbrev hs1_7 (t : Fin cfg1.N) : (ms1_7 t).IsWhole := hstage1_7 ((cfg1.slots t 7).cast nbuf1_7)
/-- Window 8's staging buffer at point `t`. -/
abbrev ms1_8 (t : Fin cfg1.N) : Memref sig .tc .vmem S1x256 .f32 := win1_8.stage (cfg1.slots t 8)
/-- It is a whole buffer. -/
abbrev hs1_8 (t : Fin cfg1.N) : (ms1_8 t).IsWhole := hstage1_8 ((cfg1.slots t 8).cast nbuf1_8)
/-- Window 9's staging buffer at point `t`. -/
abbrev ms1_9 (t : Fin cfg1.N) : Memref sig .tc .vmem S1x32x128x256 .f32 := win1_9.stage (cfg1.slots t 9)
/-- It is a whole buffer. -/
abbrev hs1_9 (t : Fin cfg1.N) : (ms1_9 t).IsWhole := hstage1_9 ((cfg1.slots t 9).cast nbuf1_9)

set_option maxHeartbeats 1000000 in
/-- The list of what the body stores into the output's buffer (last first), with the proof that from input buffers at any contents and an
    output buffer at anything the body runs, keeps the inputs and writes that list. -/
noncomputable def kernelRun1_A (c : Dev nD) (i : grid1.Coords) (arg2 : Memref sig .tc .vmem S1x130x130x256 .bf16) (harg2 : arg2.IsWhole) (arg3 : Memref sig .tc .vmem S1x128x128 .f32) (harg3 : arg3.IsWhole) (arg4 : Memref sig .tc .vmem S1x132x128 .f32) (harg4 : arg4.IsWhole) (arg5 : Memref sig .tc .vmem S1152x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2304x256 .bf16) (harg9 : arg9.IsWhole) (arg10 : Memref sig .tc .vmem S1x256 .f32) (harg10 : arg10.IsWhole) (arg11 : Memref sig .tc .vmem S1x32x128x256 .f32) (harg11 : arg11.IsWhole)
    (x0 : Vec F S1x130x130x256 .bf16) (x1 : Vec F S1x128x128 .f32) (x2 : Vec F S1x132x128 .f32) (x3 : Vec F S1152x256 .bf16) (x4 : Vec F S1x256 .f32) (x5 : Vec F S256x256 .bf16) (x6 : Vec F S1x256 .f32) (x7 : Vec F S2304x256 .bf16) (x8 : Vec F S1x256 .f32) :
    { L9 : List (View.Piece (Elt F) S1x32x128x256 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc1__k2 i arg2 harg2 arg3 harg3 arg4 harg4 arg5 harg5 arg6 harg6 arg7 harg7 arg8 harg8 arg9 harg9 arg10 harg10 arg11 harg11) K } := by
  refine ⟨?_, fun E K => ?run⟩
  case run =>
    simp only [cc1__k2_eq_skeleton]; unfold cc1__k2_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

/-- The run's stores into output 9 cover its block. -/
theorem cover1_A_9 (c : Dev nD) (i : grid1.Coords) (arg2 : Memref sig .tc .vmem S1x130x130x256 .bf16) (harg2 : arg2.IsWhole) (arg3 : Memref sig .tc .vmem S1x128x128 .f32) (harg3 : arg3.IsWhole) (arg4 : Memref sig .tc .vmem S1x132x128 .f32) (harg4 : arg4.IsWhole) (arg5 : Memref sig .tc .vmem S1152x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2304x256 .bf16) (harg9 : arg9.IsWhole) (arg10 : Memref sig .tc .vmem S1x256 .f32) (harg10 : arg10.IsWhole) (arg11 : Memref sig .tc .vmem S1x32x128x256 .f32) (harg11 : arg11.IsWhole)
    (x0 : Vec F S1x130x130x256 .bf16) (x1 : Vec F S1x128x128 .f32) (x2 : Vec F S1x132x128 .f32) (x3 : Vec F S1152x256 .bf16) (x4 : Vec F S1x256 .f32) (x5 : Vec F S256x256 .bf16) (x6 : Vec F S1x256 .f32) (x7 : Vec F S2304x256 .bf16) (x8 : Vec F S1x256 .f32) (y : S1x32x128x256.Idx) :
    ∃ pc ∈ (kernelRun1_A c i arg2 harg2 arg3 harg3 arg4 harg4 arg5 harg5 arg6 harg6 arg7 harg7 arg8 harg8 arg9 harg9 arg10 harg10 arg11 harg11 x0 x1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 arg11 harg11 x0 x1 x2 x3 x4 x5 x6 x7 x8).1 S1x32x128x256.size (by sl_kernel_rfl) y

/-- What the run leaves in output 9's staging buffer. -/
def out1_A_9 (c : Dev nD) (i : grid1.Coords) (arg2 : Memref sig .tc .vmem S1x130x130x256 .bf16) (harg2 : arg2.IsWhole) (arg3 : Memref sig .tc .vmem S1x128x128 .f32) (harg3 : arg3.IsWhole) (arg4 : Memref sig .tc .vmem S1x132x128 .f32) (harg4 : arg4.IsWhole) (arg5 : Memref sig .tc .vmem S1152x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S2304x256 .bf16) (harg9 : arg9.IsWhole) (arg10 : Memref sig .tc .vmem S1x256 .f32) (harg10 : arg10.IsWhole) (arg11 : Memref sig .tc .vmem S1x32x128x256 .f32) (harg11 : arg11.IsWhole)
    (x0 : Vec F S1x130x130x256 .bf16) (x1 : Vec F S1x128x128 .f32) (x2 : Vec F S1x132x128 .f32) (x3 : Vec F S1152x256 .bf16) (x4 : Vec F S1x256 .f32) (x5 : Vec F S256x256 .bf16) (x6 : Vec F S1x256 .f32) (x7 : Vec F S2304x256 .bf16) (x8 : Vec F S1x256 .f32) : Vec F S1x32x128x256 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 x0 x1 x2 x3 x4 x5 x6 x7 x8).1)

/-! ## What the outputs hold after each point -/

/-- What the output's staging buffer holds after the body at point `t`. -/
def outsAt1 (c : Dev nD) (t : Fin cfg1.N) : Vec F S1x32x128x256 .f32 :=
  out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)

/-! ## The pipeline's proof data -/

/-- The proof data of pipeline 1 on core `c`: the arrays as the region finds them (`V`); after the body at point `t` each input's buffer
    at its block and each output's at `outsAt1`; beside them the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t)
  Φ _ := Pipeline.ΦA spec1 c
  q _ := fullShare
  owed _ := 0

/-- The proof data's arrays are the contents on entry. -/
theorem A_eq1 (c : Dev nD) (w : Fin cfg1.W) : (dat1 V c).A w = V c (Pipeline.arrRef spec1 w) := by
  dsimp only [dat1]

/-- The body leaves window 0's buffer at its block. -/
theorem after1_0 (c : Dev nD) (t : Fin cfg1.N) : (dat1 V c).after 0 t = iblk1 V c 0 t := by dsimp only [dat1]
/-- The body leaves window 1's buffer at its block. -/
theorem after1_1 (c : Dev nD) (t : Fin cfg1.N) : (dat1 V c).after 1 t = iblk1 V c 1 t := by dsimp only [dat1]
/-- The body leaves window 2's buffer at its block. -/
theorem after1_2 (c : Dev nD) (t : Fin cfg1.N) : (dat1 V c).after 2 t = iblk1 V c 2 t := by dsimp only [dat1]
/-- The body leaves window 3's buffer at its block. -/
theorem after1_3 (c : Dev nD) (t : Fin cfg1.N) : (dat1 V c).after 3 t = iblk1 V c 3 t := by dsimp only [dat1]
/-- The body leaves window 4's buffer at its block. -/
theorem after1_4 (c : Dev nD) (t : Fin cfg1.N) : (dat1 V c).after 4 t = iblk1 V c 4 t := by dsimp only [dat1]
/-- The body leaves window 5's buffer at its block. -/
theorem after1_5 (c : Dev nD) (t : Fin cfg1.N) : (dat1 V c).after 5 t = iblk1 V c 5 t := by dsimp only [dat1]
/-- The body leaves window 6's buffer at its block. -/
theorem after1_6 (c : Dev nD) (t : Fin cfg1.N) : (dat1 V c).after 6 t = iblk1 V c 6 t := by dsimp only [dat1]
/-- The body leaves window 7's buffer at its block. -/
theorem after1_7 (c : Dev nD) (t : Fin cfg1.N) : (dat1 V c).after 7 t = iblk1 V c 7 t := by dsimp only [dat1]
/-- The body leaves window 8's buffer at its block. -/
theorem after1_8 (c : Dev nD) (t : Fin cfg1.N) : (dat1 V c).after 8 t = iblk1 V c 8 t := by dsimp only [dat1]
/-- The body leaves window 9's buffer at what the run leaves. -/
theorem after1_9 (c : Dev nD) (t : Fin cfg1.N) : (dat1 V c).after 9 t = (outsAt1 V c t) := by dsimp only [dat1]

/-- The staging buffer of an uncut input window holds its block `blk t` at every point, whether it was fetched there or kept from the point
    before: the body leaves it in place (`hafter`). -/
theorem before1_of (c : Dev nD) (w : Fin cfg1.W) (hin : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (blk : Fin cfg1.N → (cfg1.win w).block.Idx → Elt F (cfg1.win w).elt)
    (hcut : ∀ t, (cfg1.win w).cut (cfg1.grid.coords t) (blk t) = iblk1 V c w t)
    (hfill : ∀ t d, (cfg1.win w).fill (cfg1.grid.coords t) d (iblk1 V c w t) = blk t)
    (hafter : ∀ t, (dat1 V c).after w t = blk t) (t : Fin cfg1.N) (d) : (dat1 V c).before w t d = blk t :=
  have hA : ∀ t, (dat1 V c).blockOf w t = iblk1 V c w t := fun t => by unfold Dat.blockOf iblk1; rw [A_eq1]
  ((dat1 V c).before_in_eq_fetched w hin hlive hclip (fun t => by rw [hafter, hcut, hA]) t d).trans
    (by unfold Dat.fetched; rw [hA, hfill])

/-- Input 0's staging buffer holds its block at every point. -/
theorem before1_0 (c : Dev nD) (t : Fin cfg1.N) (d) : (dat1 V c).before 0 t d = iblk1 V c 0 t :=
  before1_of V c 0 rfl (fun _ => rfl) (fun _ _ _ => rfl) (fun t => iblk1 V c 0 t) (fun _ => rfl) (fun _ _ => rfl) (after1_0 V c) t d
/-- Input 1's staging buffer holds its block at every point. -/
theorem before1_1 (c : Dev nD) (t : Fin cfg1.N) (d) : (dat1 V c).before 1 t d = iblk1 V c 1 t :=
  before1_of V c 1 rfl (fun _ => rfl) (fun _ _ _ => rfl) (fun t => iblk1 V c 1 t) (fun _ => rfl) (fun _ _ => rfl) (after1_1 V c) t d
/-- Input 2's staging buffer holds its block at every point. -/
theorem before1_2 (c : Dev nD) (t : Fin cfg1.N) (d) : (dat1 V c).before 2 t d = iblk1 V c 2 t :=
  before1_of V c 2 rfl (fun _ => rfl) (fun _ _ _ => rfl) (fun t => iblk1 V c 2 t) (fun _ => rfl) (fun _ _ => rfl) (after1_2 V c) t d
/-- Input 3's staging buffer holds its block at every point. -/
theorem before1_3 (c : Dev nD) (t : Fin cfg1.N) (d) : (dat1 V c).before 3 t d = iblk1 V c 3 t :=
  before1_of V c 3 rfl (fun _ => rfl) (fun _ _ _ => rfl) (fun t => iblk1 V c 3 t) (fun _ => rfl) (fun _ _ => rfl) (after1_3 V c) t d
/-- Input 4's staging buffer holds its block at every point. -/
theorem before1_4 (c : Dev nD) (t : Fin cfg1.N) (d) : (dat1 V c).before 4 t d = iblk1 V c 4 t :=
  before1_of V c 4 rfl (fun _ => rfl) (fun _ _ _ => rfl) (fun t => iblk1 V c 4 t) (fun _ => rfl) (fun _ _ => rfl) (after1_4 V c) t d
/-- Input 5's staging buffer holds its block at every point. -/
theorem before1_5 (c : Dev nD) (t : Fin cfg1.N) (d) : (dat1 V c).before 5 t d = iblk1 V c 5 t :=
  before1_of V c 5 rfl (fun _ => rfl) (fun _ _ _ => rfl) (fun t => iblk1 V c 5 t) (fun _ => rfl) (fun _ _ => rfl) (after1_5 V c) t d
/-- Input 6's staging buffer holds its block at every point. -/
theorem before1_6 (c : Dev nD) (t : Fin cfg1.N) (d) : (dat1 V c).before 6 t d = iblk1 V c 6 t :=
  before1_of V c 6 rfl (fun _ => rfl) (fun _ _ _ => rfl) (fun t => iblk1 V c 6 t) (fun _ => rfl) (fun _ _ => rfl) (after1_6 V c) t d
/-- Input 7's staging buffer holds its block at every point. -/
theorem before1_7 (c : Dev nD) (t : Fin cfg1.N) (d) : (dat1 V c).before 7 t d = iblk1 V c 7 t :=
  before1_of V c 7 rfl (fun _ => rfl) (fun _ _ _ => rfl) (fun t => iblk1 V c 7 t) (fun _ => rfl) (fun _ _ => rfl) (after1_7 V c) t d
/-- Input 8's staging buffer holds its block at every point. -/
theorem before1_8 (c : Dev nD) (t : Fin cfg1.N) (d) : (dat1 V c).before 8 t d = iblk1 V c 8 t :=
  before1_of V c 8 rfl (fun _ => rfl) (fun _ _ _ => rfl) (fun t => iblk1 V c 8 t) (fun _ => rfl) (fun _ _ => rfl) (after1_8 V c) t d

/-! ## The body obligation, at a generic point -/

/-- What the body is called with at point `t`, window by window. -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What the body returns at point `t`. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 800000 in
/-- The body at any point: the inputs hold their blocks, so the run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold outsAt1
  unfold out1_A_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover1_A_9 c _ _ _ _ _ _ _ _ _ _ _ _ _ _ _ _ _ _ _ _ _ _ _ _ _ _ _ _ _ _)

/-- The body that the pipeline calls at point `t` is `bodyAt1 t`. -/
theorem defs₀_row1 (t : Fin cfg1.N) :
    defs₀ (F := F) .tc cfg1.body (cfg1.bodyArgs t (cfg1.slots t)) = bodyAt1 t := by
  unfold defs₀; rw [Defs.onTc_tc]

/-- The pipeline's obligation on its body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.Run.lean ====
/-
  The whole run of `KernelIdeal`: the buffer contents at each boundary between host operations and regions (`W0` … `W8`), each region as a
  segment over them, and `run`: from any memory with every counter at zero the program terminates with every unscoped buffer at
  `W8` and every semaphore counter at zero.
-/
module

public import proofs.«01_k».proof.Proof.KernelIdeal.Pool
public import proofs.«01_k».proof.Proof.KernelIdeal.Conv

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-! ## The host stretches: none allocates a buffer, and a buffer that none of a stretch's operations writes keeps its contents -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c]
/-- `hostOps0` writes those references only. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v2]
/-- `hostOps0_1` writes those references only. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst, main_v3, main_v4, main_v5, main_v6, main_v7, main_v8, main_v9, main_v10, main_v11, main_v12, main_v13, main_v14, main_cst_0, main_v15, main_v16, main_v17, main_v18, main_v19, main_v20, main_v21, main_v22, main_v23, main_v24, main_v25, main_v26, main_v27, main_v28, main_v29, main_cst_1, main_v30, main_v31, main_v32, main_v33, main_v34, main_v35, main_v36, main_v37, main_v38, main_v39, main_v40, main_v41, main_v42, main_cst_2, main_v43, main_v44, main_v45, main_v46, main_v47, main_v48, main_v49, main_v50, main_v51, main_v52, main_v53, main_v54, main_v55, main_cst_3, main_v56, main_v57, main_v58, main_v59, main_v60, main_v61, main_v62, main_v63, main_v64, main_v65, main_v66, main_v67, main_v68]
/-- `hostOps0_2` writes those references only. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays. -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c_4]
/-- `hostOps1` writes those references only. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays. -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call1_v0, main_v70]
/-- `hostOps1_1` writes those references only. -/
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays. -/
theorem hostOps1_1_args : ∀ a ∈ argRefs, a ∉ hostOps1_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v72]
/-- `hostOps2` writes those references only. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary, and what each item leaves unchanged -/

/-- Core `c`'s buffers at launch. -/
abbrev W0 : Dev nD → Valuation τ sig (Elt F) := fun c b => (s₀ m ρ).mem ((c : Dev nD), b)
/-- The argument arrays are as launched at boundary 0. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The argument arrays are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The argument arrays are as launched at boundary 2. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The argument arrays are as launched at boundary 3. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same, by the buffers' own names (what region 0's proof data take). -/
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
/-- The region's arrays at its exit are what the pipeline leaves. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- A buffer that is none of the region's arrays keeps its contents across it. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer that is none of region 0's output arrays keeps its contents across it. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input. -/
theorem argsIn0 : ∀ a ∈ argRefs, ∀ w : Fin cfg0.W, Pipeline.arrRef spec0 w = a → (cfg0.win w).isOut = false :=
  ListAll.forall_mem_of_all_decide (by decide +kernel)
/-- The argument arrays are as launched at boundary 4. -/
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same, by the buffers' own names (region 0's exit contents). -/
abbrev V4 : (c : Dev nD) → (b : Ref sig .tc) → Buf (Elt F) ((c : Thread nD τ).loc b) := fun c b => W4 m ρ c b
/-- At region 0's exit each of its arrays holds what the pipeline leaves. -/
theorem hF0 (c : Dev nD) (w : Fin cfg0.W) : (dat0 (V3 m ρ) c).arrAt w cfg0.N = V4 m ρ c (Pipeline.arrRef spec0 w) :=
  (W4_arr m ρ c w).symm
/-- At region 0's exit every other buffer holds what it held at entry. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- The argument arrays are as launched at boundary 5. -/
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1` (region 1's entry). -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
/-- The argument arrays are as launched at boundary 6. -/
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- The same, by the buffers' own names (what region 1's proof data take). -/
abbrev V6 : (c : Dev nD) → (b : Ref sig .tc) → Buf (Elt F) ((c : Thread nD τ).loc b) := fun c b => W6 m ρ c b
/-- At region 1's exit: its arrays at what the pipeline leaves, every other buffer as entered. -/
def W7 (c : Dev nD) : Valuation τ sig (Elt F) :=
  Pipeline.withArrays spec1 c (W6 m ρ c) fun w => (dat1 (V6 m ρ) c).arrAt w cfg1.N
/-- The region's arrays at its exit are what the pipeline leaves. -/
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
/-- A buffer that is none of the region's arrays keeps its contents across it. -/
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- A buffer that is none of region 1's output arrays keeps its contents across it. -/
theorem W7_of (c : Dev nD) (r : Ref sig .tc) (h : ∀ w : Fin cfg1.W, Pipeline.arrRef spec1 w = r → (cfg1.win w).isOut = false) :
    W7 m ρ c (Proc.devRef .tc r) = W6 m ρ c (Proc.devRef .tc r) := by
  by_cases hw : ∃ w : Fin cfg1.W, Pipeline.arrRef spec1 w = r
  · obtain ⟨w, rfl⟩ := hw
    exact (W7_arr m ρ c w).trans (((dat1 (V6 m ρ) c).arrAt_in w (h w rfl) _).trans (A_eq1 (V6 m ρ) c w))
  · exact W7_of_ne m ρ c r fun w e => hw ⟨w, e⟩
/-- Every argument among region 1's arrays is an input. -/
theorem argsIn1 : ∀ a ∈ argRefs, ∀ w : Fin cfg1.W, Pipeline.arrRef spec1 w = a → (cfg1.win w).isOut = false :=
  ListAll.forall_mem_of_all_decide (by decide +kernel)
/-- The argument arrays are as launched at boundary 7. -/
theorem W7_args (c : Dev nD) : ∀ a ∈ argRefs, W7 m ρ c (Proc.devRef .tc a) = m ((c : Thread nD τ).loc a) :=
  fun a ha => (W7_of m ρ c a (argsIn1 a ha)).trans (W6_args m ρ c a ha)
/-- The same, by the buffers' own names (region 1's exit contents). -/
abbrev V7 : (c : Dev nD) → (b : Ref sig .tc) → Buf (Elt F) ((c : Thread nD τ).loc b) := fun c b => W7 m ρ c b
/-- At region 1's exit each of its arrays holds what the pipeline leaves. -/
theorem hF1 (c : Dev nD) (w : Fin cfg1.W) : (dat1 (V6 m ρ) c).arrAt w cfg1.N = V7 m ρ c (Pipeline.arrRef spec1 w) :=
  (W7_arr m ρ c w).symm
/-- At region 1's exit every other buffer holds what it held at entry. -/
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After `hostOps2`. -/
abbrev W8 : Dev nD → Valuation τ sig (Elt F) := fun c => StableHlo.after hostOps2 (W7 m ρ c)
/-- A reference `hostOps2` does not write keeps its contents across it. -/
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
/-- The argument arrays are as launched at boundary 8. -/
theorem W8_args (c : Dev nD) : ∀ a ∈ argRefs, W8 m ρ c (Proc.devRef .tc a) = m ((c : Thread nD τ).loc a) :=
  fun a ha => (W8_of m ρ c a (hostOps2_args a ha)).trans (W7_args m ρ c a ha)
/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V6 m ρ) c
/-- No variant is needed: no loop is unbounded. -/
abbrev 𝒱₀ : Variants := Variants.none
/-- No core owes another anything: no level is assigned. -/
abbrev L : GSem nD τ sig → Finset Unit := fun _ => ∅
/-- Every level is zero. -/
abbrev lv : GSem nD τ sig → Unit → ℕ := fun _ _ => 0
/-- What rides beside the buffers through every segment: the generator register at some state, and nothing owed. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment, from the contents `W`, with `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents `W8`, the generator register at some state. -/
abbrev Tₙ (c : Dev nD) : sProp (MT nD τ sig Unit (Elt F) ℕ (UR sig nD τ) ℕ) := iprop(StableHlo.held (c : Thread nD τ) (Pipeline.ucRefs τ sig) (W8 m ρ c) ∗ ∃ r, prngReg c r)

/-! ## The regions as segments -/

set_option backward.isDefEq.respectTransparency.types false in
/-- REGION 0 as a segment: entered from every unscoped buffer at `W3`, left at `W4`. Its arrays are split out of the unscoped buffers and
    put back at the exit contents; the generator register goes in and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at `W6`, left at `W7`. Its arrays are split out of the unscoped buffers and
    put back at the exit contents; the generator register goes in and comes out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) (A_eq1 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program's 8 segments in order: a host segment per stretch, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)) ]
/-- The program is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
set_option backward.isDefEq.respectTransparency.types false in
/-- THE RUN: from any memory with every counter at zero, every weakly fair execution of the program terminates, nothing faulting, with
    every unscoped buffer at the last boundary's contents `W8` and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.KernelIdeal.Run

end
-- ==== Proof.Frames.lean ====
/- The frame claims: each program, run from zeroed counters, ends with its 26 argument arrays as they were and with every
   semaphore counter at zero. No operation of the kernel is rewritten for the ideal reading, so the kernel and its ideal
   form are one program read over two kinds of floats, and one frame over any floats serves both. -/
module

public import proofs.«01_k».proof.Defs
public import proofs.«01_k».proof.Proof.Gen.Kernel
public import proofs.«01_k».proof.Proof.KernelIdeal.Run
public import proofs.«01_k».proof.Proof.Gen.ReferenceIdeal.Run
public import Idealize.ShloMosaic.Lib.Tactic

@[expose] public section

noncomputable section

namespace Cert.Proof

open Idealize.ShloMosaic Idealize.SL.Sem

section
open Cert.KernelIdeal

/-- The frame of the kernel's program over the floats `F`. -/
def Framed (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0)

/-- The run of the kernel leaves every argument array as launched. -/
theorem args_kept {F : FTy → Type} [FloatOps F] (m : (ℓ : Loc nD τ sig) → Buf (Elt F) ℓ) (ρ : Dev nD → PrngReg) (c : Dev nD)
    (mem : (ℓ : Loc nD τ sig) → Buf (Elt F) ℓ)
    (h : ∀ b ∈ Pipeline.ucRefs τ sig, mem ((c.tc : Thread nD τ).1, b) = Run.W8 m ρ c b) :
    ∀ a ∈ Run.argRefs, mem ((c.tc : Thread nD τ).loc a) = m ((c.tc : Thread nD τ).loc a) := fun a ha =>
  have hu : ∀ a ∈ Run.argRefs, ¬ (Proc.devRef .tc a : DevRef τ sig).isScoped := by decide
  (h _ (Run.mem_uc a (hu a ha))).trans (Run.W8_args m ρ c a ha)

/-- The frame holds over any floats. -/
theorem framed (F : FTy → Type) [FloatOps F] : Framed F := by
  intro m ρ _
  refine (θ_run defs _ _).mono (fun r h => ⟨fun c => ?_, h.2⟩) (Run.run (F := F) m ρ)
  and_intros <;> exact args_kept m ρ c _ (h.1 c) _ (by decide)

end

set_option maxRecDepth 65536 in
set_option maxHeartbeats 4000000 in
/-- The frame of the printed kernel is the frame over the machine's words. -/
theorem frame_Kernel_eq : Cert.quiescent_Kernel = Framed Bits := by sl_kernel_rfl

/-- The printed kernel leaves its arguments and ends with zero counters. -/
theorem frame_Kernel : Cert.quiescent_Kernel := frame_Kernel_eq ▸ framed Bits

/-- The ideal kernel leaves its arguments and ends with zero counters. -/
theorem frame_KernelIdeal : Cert.quiescent_KernelIdeal := framed Ideal

/-- The reference leaves its arguments; it declares no semaphore. -/
theorem frame_ReferenceIdeal : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Math.lean ====
module

public import Idealize.ShloMosaic.Lib.Pointwise

/-!
# The arithmetic the value claim rests on

Extended real numbers that are real, batch normalisation folded into the weights of a convolution, a maximum
written as a fold or as two one-sided window maxima, and a sum over the nine taps of a 3×3 window.
-/

@[expose] public section

noncomputable section

namespace Cert.Proof

open Idealize.ShloMosaic

/-- An extended real that is a real number. -/
def IsReal (x : EReal) : Prop := ∃ r : ℝ, x = (r : EReal)

/-- Zero is real. -/
theorem IsReal.zero : IsReal 0 := ⟨0, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
theorem IsReal.max {x y : EReal} (hx : IsReal x) (hy : IsReal y) : IsReal (Max.max x y) := by
  rcases max_choice x y with h | h <;> rw [h] <;> assumption

/-- A finite sum of reals is real. -/
theorem IsReal.sum {ι : Type} (s : Finset ι) (f : ι → EReal) (hf : ∀ i, IsReal (f i)) : IsReal (∑ i ∈ s, f i) := by
  classical
  induction s using Finset.induction_on with
  | empty => exact IsReal.zero
  | insert a s ha ih => rw [Finset.sum_insert ha]; exact (hf a).add ih

/-- The maximum of finitely many, at least one, reals is real. -/
theorem IsReal.sup {n : ℕ} (f : Fin (n + 1) → EReal) (hf : ∀ i, IsReal (f i)) : IsReal (Finset.univ.sup f) := by
  obtain ⟨i, -, hi⟩ := Finset.exists_mem_eq_sup Finset.univ ⟨0, Finset.mem_univ _⟩ f
  rw [hi]
  exact hf i

/-- A number below `⊤` in absolute value is real. -/
theorem IsReal.of_abs {x : EReal} (h : Max.max x (-x) < ⊤) : IsReal x := by
  induction x with
  | bot => simp at h
  | coe r => exact ⟨r, rfl⟩
  | top => simp at h

/-- A real factor may be taken out of a sum of products of reals. -/
theorem sum_mul_real {ι : Type} (t : Finset ι) (a w : ι → EReal) (s : EReal) (ha : ∀ i, IsReal (a i)) (hw : ∀ i, IsReal (w i))
    (hs : IsReal s) : ∑ i ∈ t, a i * (w i * s) = (∑ i ∈ t, a i * w i) * s := by
  classical
  induction t using Finset.induction_on with
  | empty => simp
  | insert i t hi ih =>
    rw [Finset.sum_insert hi, Finset.sum_insert hi, ih]
    obtain ⟨p, hp⟩ := ha i
    obtain ⟨q, hq⟩ := hw i
    obtain ⟨u, hu⟩ := IsReal.sum t (fun i => a i * w i) fun i => (ha i).mul (hw i)
    obtain ⟨v, rfl⟩ := hs
    rw [hp, hq, hu]
    norm_cast
    ring

/-- A real factor distributes over the difference of a real and any extended real. -/
theorem sub_mul_real (A s : ℝ) (m : EReal) : ((A : EReal) - m) * (s : EReal) = (A : EReal) * (s : EReal) - m * (s : EReal) := by
  induction m with
  | coe r => norm_cast; ring
  | top =>
    rw [EReal.sub_top]
    rcases lt_trichotomy s 0 with h | h | h
    · rw [EReal.bot_mul_coe_of_neg h, EReal.top_mul_coe_of_neg h, ← EReal.coe_mul, EReal.coe_sub_bot]
    · subst h; simp
    · rw [EReal.bot_mul_coe_of_pos h, EReal.top_mul_coe_of_pos h, EReal.sub_top]
  | bot =>
    rw [EReal.coe_sub_bot]
    rcases lt_trichotomy s 0 with h | h | h
    · rw [EReal.top_mul_coe_of_neg h, EReal.bot_mul_coe_of_neg h, EReal.sub_top]
    · subst h; simp
    · rw [EReal.top_mul_coe_of_pos h, EReal.bot_mul_coe_of_pos h, ← EReal.coe_mul, EReal.coe_sub_bot]

/-- BATCH NORMALISATION FOLDED INTO THE WEIGHTS: for real inputs, weights and scale, and any mean and shift, summing with the
    scaled weights and adding `b - m s` is normalising the plain sum. -/
theorem bn_fold {ι : Type} [Fintype ι] (a w : ι → EReal) (s m b : EReal) (ha : ∀ i, IsReal (a i)) (hw : ∀ i, IsReal (w i))
    (hs : IsReal s) : (∑ i, a i * (w i * s)) + (b - m * s) = ((∑ i, a i * w i) - m) * s + b := by
  rw [sum_mul_real _ a w s ha hw hs]
  obtain ⟨A, hA⟩ := IsReal.sum Finset.univ (fun i => a i * w i) fun i => (ha i).mul (hw i)
  obtain ⟨v, rfl⟩ := hs
  rw [hA, sub_mul_real, sub_eq_add_neg, sub_eq_add_neg, add_assoc, add_comm b]

/-! ## Maxima -/

/-- A fold of `max` from the word of `-∞` is the maximum over the set. -/
theorem fold_max_eq_sup {n : ℕ} (f : Fin n → EReal) : Finset.univ.fold max (⊥ : EReal) f = Finset.univ.sup f := rfl

/-- A left fold of `max` is at most `z` exactly when its start and every term are. -/
theorem foldl_max_le {ι : Type} (g : ι → EReal) (z : EReal) (l : List ι) (v : EReal) :
    l.foldl (fun r n => max r (g n)) v ≤ z ↔ v ≤ z ∧ ∀ n ∈ l, g n ≤ z := by
  induction l generalizing v with
  | nil => simp
  | cons a l ih => rw [List.foldl_cons, ih, max_le_iff, List.forall_mem_cons, and_assoc]

/-- A window maximum that starts from `-∞` is at most `z` exactly when every operand entry its window covers is. -/
theorem reduceWindow_max_le {s t u : Shape} (window strides lo hi : Fin s.rank → ℕ) (x : s.Idx → EReal) (init : u.Idx → EReal)
    (h : s.ReduceWindows window strides lo hi t) (hu : 0 < u.numel) (hinit : ∀ i, init i = ⊥) (j : t.Idx) (z : EReal) :
    Host.reduceWindow (max : EReal → EReal → EReal) window strides lo hi x init h hu j ≤ z ↔
      ∀ w : (⟨s.rank, window⟩ : Shape).Idx, ∀ hin : (∀ a, lo a ≤ (j (a.cast h.1.symm)).val * strides a + (w a).val
          ∧ (j (a.cast h.1.symm)).val * strides a + (w a).val - lo a < s.size a),
        x (fun a => ⟨(j (a.cast h.1.symm)).val * strides a + (w a).val - lo a, (hin a).2⟩) ≤ z := by
  unfold Host.reduceWindow
  simp only []
  rw [foldl_max_le, hinit]
  constructor
  · rintro ⟨-, H⟩ w hin
    have := H ((⟨s.rank, window⟩ : Shape).rowMajor w) (List.mem_finRange _)
    simp only [Equiv.symm_apply_apply] at this
    rwa [dif_pos hin] at this
  · refine fun H => ⟨bot_le, fun n _ => ?_⟩
    split
    · next hin => exact H _ hin
    · exact bot_le

/-! ## The nine taps of a 3×3 window -/

/-- The nine taps of a window and the channels under them, in the order a matrix row of `9 C` entries lists them. -/
def tapEquiv (C n : ℕ) (hn : n = 3 * (3 * C)) : Fin 3 × Fin 3 × Fin C ≃ Fin n :=
  ((Equiv.refl _).prodCongr finProdFinEquiv).trans (finProdFinEquiv.trans (finCongr hn.symm))

/-- The row entry of a tap and a channel. -/
theorem tapEquiv_val (C n : ℕ) (hn : n = 3 * (3 * C)) (t : Fin 3 × Fin 3 × Fin C) :
    (tapEquiv C n hn t).val = t.2.2.val + C * t.2.1.val + 3 * C * t.1.val := rfl

/-- A sum over a matrix row of `9 C` entries is a sum over the taps and channels. -/
theorem sum_taps (C n : ℕ) (hn : n = 3 * (3 * C)) (f : Fin n → EReal) : ∑ k, f k = ∑ t, f (tapEquiv C n hn t) :=
  (Equiv.sum_comp (tapEquiv C n hn) f).symm

/-- Two such sums agree when their terms do, each row entry given as a number. -/
theorem sum_taps_congr (C n : ℕ) (hn : n = 3 * (3 * C)) (f : Fin n → EReal) (g : Fin 3 × Fin 3 × Fin C → EReal)
    (h : ∀ t x, x = tapEquiv C n hn t → x.val = t.2.2.val + C * t.2.1.val + 3 * C * t.1.val → f x = g t) : ∑ k, f k = ∑ t, g t := by
  rw [sum_taps C n hn]
  exact Finset.sum_congr rfl fun t _ => h t _ rfl (tapEquiv_val C n hn t)

/-- NINE BLOCKS LAID SIDE BY SIDE, read at the entry of a tap and a channel: the entry of that tap's block at that channel. -/
theorem ladder {C : ℕ} (T : Fin 3 → Fin 3 → Fin C → EReal) (t : Fin 3 × Fin 3 × Fin C) (x : ℕ)
    (hx : x = t.2.2.val + C * t.2.1.val + 3 * C * t.1.val) (h8 : x - C - C - C - C - C - C - C - C < C) :
    (if h : x < C then T 0 0 ⟨x, h⟩
      else if h : x - C < C then T 0 1 ⟨x - C, h⟩
      else if h : x - C - C < C then T 0 2 ⟨x - C - C, h⟩
      else if h : x - C - C - C < C then T 1 0 ⟨x - C - C - C, h⟩
      else if h : x - C - C - C - C < C then T 1 1 ⟨x - C - C - C - C, h⟩
      else if h : x - C - C - C - C - C < C then T 1 2 ⟨x - C - C - C - C - C, h⟩
      else if h : x - C - C - C - C - C - C < C then T 2 0 ⟨x - C - C - C - C - C - C, h⟩
      else if h : x - C - C - C - C - C - C - C < C then T 2 1 ⟨x - C - C - C - C - C - C - C, h⟩
      else T 2 2 ⟨x - C - C - C - C - C - C - C - C, h8⟩) = T t.1 t.2.1 t.2.2 := by
  obtain ⟨ky, kx, c, hc⟩ := t
  have key : ∀ a, (a + C < C) = False := fun a => eq_false (by omega)
  have e2 : C * 2 = C + C := by omega
  have e3 : 3 * C = C + C + C := by omega
  have e6 : (C + C + C) * 2 = C + C + C + C + C + C := by omega
  fin_cases ky <;> fin_cases kx <;>
    simp only [Fin.zero_eta, Fin.mk_one, Fin.reduceFinMk, Fin.isValue, Fin.val_zero, Fin.val_one, Fin.val_two, Nat.mul_zero, Nat.mul_one,
      Nat.add_zero, e2, e3, e6, ← Nat.add_assoc] at hx ⊢ <;>
    subst hx <;>
    simp only [Nat.add_sub_cancel, key, hc, dite_true, dite_false]

end Cert.Proof

end
-- ==== Proof.Spec.lean ====
module

public import proofs.«01_k».proof.Proof.Math

/-!
# The function one image is sent to, in two forms

`Net` holds one image and the parameters of the five convolutions. `Net.out` normalises after each convolution;
`Net.outF` uses weights scaled beforehand and one shift. `Net.outF_eq` says they agree where the parameters are real.
-/

@[expose] public section

noncomputable section

namespace Cert.Proof

open Idealize.ShloMosaic

/-- An image plane with a border of one zero on every side. -/
def padded (f : Fin 128 → Fin 128 → EReal) (h w : ℕ) : EReal :=
  if hh : (1 ≤ h ∧ h - 1 < 128) ∧ 1 ≤ w ∧ w - 1 < 128 then f ⟨h - 1, hh.1.2⟩ ⟨w - 1, hh.2.2⟩ else 0

/-- One output of a 3×3 convolution with a border of one zero. -/
def conv {C : ℕ} (f : Fin C → Fin 128 → Fin 128 → EReal) (wt : Fin 3 → Fin 3 → Fin C → EReal) (h w : ℕ) : EReal :=
  ∑ t : Fin 3 × Fin 3 × Fin C, padded (f t.2.2) (h + t.1.val) (w + t.2.1.val) * wt t.1 t.2.1 t.2.2

/-- The scale of a batch normalisation: the gain over the root of the variance plus the small constant. -/
def scale (g v : EReal) : EReal := Ideal.div g (Ideal.sqrt (v + Ideal.ofBits .f32 0x3A83126F#32))

/-- One image and the parameters of the network, each batch normalisation as its scale, mean and shift. -/
structure Net where
  /-- The image, channel by channel. -/
  x : Fin 256 → Fin 128 → Fin 128 → EReal
  /-- The weights of the first pooled branch. -/
  w1 : Fin 128 → Fin 3 → Fin 3 → Fin 256 → EReal
  /-- Its scale. -/
  s1 : Fin 128 → EReal
  /-- Its mean. -/
  m1 : Fin 128 → EReal
  /-- Its shift. -/
  b1 : Fin 128 → EReal
  /-- The weights of the second pooled branch. -/
  w2 : Fin 128 → Fin 3 → Fin 3 → Fin 256 → EReal
  /-- Its scale. -/
  s2 : Fin 128 → EReal
  /-- Its mean. -/
  m2 : Fin 128 → EReal
  /-- Its shift. -/
  b2 : Fin 128 → EReal
  /-- The weights of the convolution of the pooled sum. -/
  wp : Fin 256 → Fin 3 → Fin 3 → Fin 128 → EReal
  /-- Its scale. -/
  sp : Fin 256 → EReal
  /-- Its mean. -/
  mp : Fin 256 → EReal
  /-- Its shift. -/
  bp : Fin 256 → EReal
  /-- The weights of the 1×1 convolution. -/
  wc : Fin 256 → Fin 256 → EReal
  /-- Its scale. -/
  sc : Fin 256 → EReal
  /-- Its mean. -/
  mc : Fin 256 → EReal
  /-- Its shift. -/
  bc : Fin 256 → EReal
  /-- The weights of the last convolution. -/
  wo : Fin 256 → Fin 3 → Fin 3 → Fin 256 → EReal
  /-- Its scale. -/
  so : Fin 256 → EReal
  /-- Its mean. -/
  mo : Fin 256 → EReal
  /-- Its shift. -/
  bo : Fin 256 → EReal

namespace Net

variable (N : Net)

/-! ## Normalising after each convolution -/

/-- The first pooled branch before pooling. -/
def p1 (o : Fin 128) (h w : Fin 128) : EReal := max ((conv N.x (N.w1 o) h w - N.m1 o) * N.s1 o + N.b1 o) 0
/-- The second pooled branch before pooling. -/
def p2 (o : Fin 128) (h w : Fin 128) : EReal := max ((conv N.x (N.w2 o) h w - N.m2 o) * N.s2 o + N.b2 o) 0
/-- The sum of the column maxima of the first branch and the row maxima of the second. -/
def pool (o : Fin 128) (h w : Fin 128) : EReal :=
  (Finset.univ.sup fun h' : Fin 128 => N.p1 o h' w) + Finset.univ.sup fun w' : Fin 128 => N.p2 o h w'
/-- The convolution of the pooled sum plus the 1×1 convolution of the image, made nonnegative. -/
def mid (o : Fin 256) (h w : Fin 128) : EReal :=
  max (((conv N.pool (N.wp o) h w - N.mp o) * N.sp o + N.bp o)
    + (((∑ c, N.x c h w * N.wc o c) - N.mc o) * N.sc o + N.bc o)) 0
/-- The output. -/
def out (o : Fin 256) (h w : Fin 128) : EReal := max ((conv N.mid (N.wo o) h w - N.mo o) * N.so o + N.bo o) 0

/-! ## Scaled weights and one shift -/

/-- The first pooled branch before pooling, with scaled weights. -/
def p1F (o : Fin 128) (h w : Fin 128) : EReal :=
  max (conv N.x (fun ky kx c => N.w1 o ky kx c * N.s1 o) h w + (N.b1 o - N.m1 o * N.s1 o)) 0
/-- The second pooled branch before pooling, with scaled weights. -/
def p2F (o : Fin 128) (h w : Fin 128) : EReal :=
  max (conv N.x (fun ky kx c => N.w2 o ky kx c * N.s2 o) h w + (N.b2 o - N.m2 o * N.s2 o)) 0
/-- The pooled sum, with scaled weights. -/
def poolF (o : Fin 128) (h w : Fin 128) : EReal :=
  (Finset.univ.sup fun w' : Fin 128 => N.p2F o h w') + Finset.univ.sup fun h' : Fin 128 => N.p1F o h' w
/-- The middle layer, with scaled weights. -/
def midF (o : Fin 256) (h w : Fin 128) : EReal :=
  max ((conv N.poolF (fun ky kx c => N.wp o ky kx c * N.sp o) h w + (N.bp o - N.mp o * N.sp o))
    + ((∑ c, N.x c h w * (N.wc o c * N.sc o)) + (N.bc o - N.mc o * N.sc o))) 0
/-- The output, with scaled weights. -/
def outF (o : Fin 256) (h w : Fin 128) : EReal :=
  max (conv N.midF (fun ky kx c => N.wo o ky kx c * N.so o) h w + (N.bo o - N.mo o * N.so o)) 0

/-- The image, the weights and the scales are real, and so are the means and shifts of all but the last normalisation. -/
structure Real : Prop where
  /-- The image is real. -/
  x : ∀ c h w, IsReal (N.x c h w)
  /-- First branch: weights. -/
  w1 : ∀ o ky kx c, IsReal (N.w1 o ky kx c)
  /-- First branch: scale. -/
  s1 : ∀ o, IsReal (N.s1 o)
  /-- First branch: mean. -/
  m1 : ∀ o, IsReal (N.m1 o)
  /-- First branch: shift. -/
  b1 : ∀ o, IsReal (N.b1 o)
  /-- Second branch: weights. -/
  w2 : ∀ o ky kx c, IsReal (N.w2 o ky kx c)
  /-- Second branch: scale. -/
  s2 : ∀ o, IsReal (N.s2 o)
  /-- Second branch: mean. -/
  m2 : ∀ o, IsReal (N.m2 o)
  /-- Second branch: shift. -/
  b2 : ∀ o, IsReal (N.b2 o)
  /-- Convolution of the pooled sum: weights. -/
  wp : ∀ o ky kx c, IsReal (N.wp o ky kx c)
  /-- Convolution of the pooled sum: scale. -/
  sp : ∀ o, IsReal (N.sp o)
  /-- Convolution of the pooled sum: mean. -/
  mp : ∀ o, IsReal (N.mp o)
  /-- Convolution of the pooled sum: shift. -/
  bp : ∀ o, IsReal (N.bp o)
  /-- 1×1 convolution: weights. -/
  wc : ∀ o c, IsReal (N.wc o c)
  /-- 1×1 convolution: scale. -/
  sc : ∀ o, IsReal (N.sc o)
  /-- 1×1 convolution: mean. -/
  mc : ∀ o, IsReal (N.mc o)
  /-- 1×1 convolution: shift. -/
  bc : ∀ o, IsReal (N.bc o)
  /-- Last convolution: weights. -/
  wo : ∀ o ky kx c, IsReal (N.wo o ky kx c)
  /-- Last convolution: scale. -/
  so : ∀ o, IsReal (N.so o)

end Net

/-- A plane of reals is real with its border. -/
theorem padded_real {f : Fin 128 → Fin 128 → EReal} (hf : ∀ h w, IsReal (f h w)) (h w : ℕ) : IsReal (padded f h w) := by
  unfold padded
  split
  · exact hf _ _
  · exact IsReal.zero

/-- A convolution of reals is real. -/
theorem conv_real {C : ℕ} {f : Fin C → Fin 128 → Fin 128 → EReal} {wt : Fin 3 → Fin 3 → Fin C → EReal}
    (hf : ∀ c h w, IsReal (f c h w)) (hw : ∀ ky kx c, IsReal (wt ky kx c)) (h w : ℕ) : IsReal (conv f wt h w) :=
  IsReal.sum _ _ fun _ => (padded_real (hf _) _ _).mul (hw _ _ _)

/-- A convolution with scaled weights and one shift is the normalised convolution. -/
theorem conv_fold {C : ℕ} {f : Fin C → Fin 128 → Fin 128 → EReal} {wt : Fin 3 → Fin 3 → Fin C → EReal} {s : EReal} (m b : EReal)
    (hf : ∀ c h w, IsReal (f c h w)) (hw : ∀ ky kx c, IsReal (wt ky kx c)) (hs : IsReal s) (h w : ℕ) :
    conv f (fun ky kx c => wt ky kx c * s) h w + (b - m * s) = (conv f wt h w - m) * s + b :=
  bn_fold (fun t : Fin 3 × Fin 3 × Fin C => padded (f t.2.2) (h + t.1.val) (w + t.2.1.val)) (fun t => wt t.1 t.2.1 t.2.2) s m b
    (fun _ => padded_real (hf _) _ _) (fun _ => hw _ _ _) hs

namespace Net

variable {N : Net}

/-- The first branch agrees in the two forms. -/
theorem p1F_eq (R : N.Real) : N.p1F = N.p1 := by
  funext o h w
  unfold p1F p1
  rw [conv_fold _ _ R.x (R.w1 o) (R.s1 o)]

/-- The second branch agrees in the two forms. -/
theorem p2F_eq (R : N.Real) : N.p2F = N.p2 := by
  funext o h w
  unfold p2F p2
  rw [conv_fold _ _ R.x (R.w2 o) (R.s2 o)]

/-- The pooled sum agrees in the two forms. -/
theorem poolF_eq (R : N.Real) : N.poolF = N.pool := by
  funext o h w
  unfold poolF pool
  rw [p1F_eq R, p2F_eq R, add_comm]

/-- The pooled sum is real. -/
theorem pool_real (R : N.Real) (o : Fin 128) (h w : Fin 128) : IsReal (N.pool o h w) :=
  (IsReal.sup _ fun _ => (((conv_real R.x (R.w1 o) _ _).sub (R.m1 o)).mul (R.s1 o) |>.add (R.b1 o)).max IsReal.zero).add
    (IsReal.sup _ fun _ => (((conv_real R.x (R.w2 o) _ _).sub (R.m2 o)).mul (R.s2 o) |>.add (R.b2 o)).max IsReal.zero)

/-- The middle layer agrees in the two forms. -/
theorem midF_eq (R : N.Real) : N.midF = N.mid := by
  funext o h w
  unfold midF mid
  rw [poolF_eq R, conv_fold _ _ (pool_real R) (R.wp o) (R.sp o),
    bn_fold (fun c => N.x c h w) (fun c => N.wc o c) (N.sc o) (N.mc o) (N.bc o) (fun c => R.x c h w) (R.wc o) (R.sc o)]

/-- The middle layer is real. -/
theorem mid_real (R : N.Real) (o : Fin 256) (h w : Fin 128) : IsReal (N.mid o h w) :=
  ((((conv_real (pool_real R) (R.wp o) _ _).sub (R.mp o)).mul (R.sp o) |>.add (R.bp o)).add
    (((IsReal.sum _ _ fun c => (R.x c h w).mul (R.wc o c)).sub (R.mc o)).mul (R.sc o) |>.add (R.bc o))).max IsReal.zero

/-- THE TWO FORMS AGREE: scaling the weights beforehand changes no output. -/
theorem outF_eq (R : N.Real) : N.outF = N.out := by
  funext o h w
  unfold outF out
  rw [midF_eq R, conv_fold _ _ (mid_real R) (R.wo o) (R.so o)]

end Net

/-- The network of one image of the arguments. -/
def netOf (x : (⟨4, ![8, 256, 128, 128]⟩ : Shape).Idx → EReal)
    (w1 : (⟨4, ![128, 256, 3, 3]⟩ : Shape).Idx → EReal) (g1 b1 m1 v1 : (⟨1, ![128]⟩ : Shape).Idx → EReal)
    (w2 : (⟨4, ![128, 256, 3, 3]⟩ : Shape).Idx → EReal) (g2 b2 m2 v2 : (⟨1, ![128]⟩ : Shape).Idx → EReal)
    (wp : (⟨4, ![256, 128, 3, 3]⟩ : Shape).Idx → EReal) (gp bp mp vp : (⟨1, ![256]⟩ : Shape).Idx → EReal)
    (wc : (⟨4, ![256, 256, 1, 1]⟩ : Shape).Idx → EReal) (gc bc mc vc : (⟨1, ![256]⟩ : Shape).Idx → EReal)
    (wo : (⟨4, ![256, 256, 3, 3]⟩ : Shape).Idx → EReal) (go bo mo vo : (⟨1, ![256]⟩ : Shape).Idx → EReal) (b : Fin 8) : Net where
  x c h w := x (ix4 b c h w)
  w1 o ky kx c := w1 (ix4 o c ky kx)
  s1 o := scale (g1 (ix1 o)) (v1 (ix1 o))
  m1 o := m1 (ix1 o)
  b1 o := b1 (ix1 o)
  w2 o ky kx c := w2 (ix4 o c ky kx)
  s2 o := scale (g2 (ix1 o)) (v2 (ix1 o))
  m2 o := m2 (ix1 o)
  b2 o := b2 (ix1 o)
  wp o ky kx c := wp (ix4 o c ky kx)
  sp o := scale (gp (ix1 o)) (vp (ix1 o))
  mp o := mp (ix1 o)
  bp o := bp (ix1 o)
  wc o c := wc (ix4 o c 0 0)
  sc o := scale (gc (ix1 o)) (vc (ix1 o))
  mc o := mc (ix1 o)
  bc o := bc (ix1 o)
  wo o ky kx c := wo (ix4 o c ky kx)
  so o := scale (go (ix1 o)) (vo (ix1 o))
  mo o := mo (ix1 o)
  bo o := bo (ix1 o)

end Cert.Proof

end
-- ==== Proof.Payload.lean ====
module

public import proofs.«01_k».proof.Proof.KernelIdeal.Pool
public import proofs.«01_k».proof.Proof.Spec

/-!
# What the two kernel bodies compute, entry by entry

The values the bodies store, read at an index: sums over the taps of a window and the channels under them.
-/

@[expose] public section

set_option maxRecDepth 16384

noncomputable section

namespace Cert.KernelIdeal.Val

open Cert.KernelIdeal Cert.KernelIdeal.Gen Cert.Proof
open Idealize.ShloMosaic

/-- The integer zero, as a float, is zero. -/
theorem toInt_zero : (((0#32 : BitVec 32).toInt : ℝ) : EReal) = 0 := by simp

/-- The word of `-∞` is `⊥`. -/
theorem negInf : Ideal.ofBits .f32 0xFF800000#32 = (⊥ : EReal) := by simp [Ideal.ofBits, Ideal.ieee]

/-- A one-bit word, widened and read as a float, is one or zero. -/
theorem mask_val (p : Prop) [Decidable p] : FloatOps.sitofp (F := Ideal) FTy.f32 (BitVec.setWidth 32 (if p then 1#1 else 0#1)) = (if p then 1 else 0 : EReal) := by
  show ((((BitVec.setWidth 32 (if p then 1#1 else 0#1)).toInt : ℝ)) : EReal) = _
  split <;> simp

/-- The first body's convolution at a pixel and an output channel. -/
theorem k0_pay2_apply (v2 : Vec Ideal S1x34x130x256 .bf16) (v15 : Vec Ideal S2304x256 .bf16) (v18 : Vec Ideal S1x256 .f32)
    (r : Fin 32) (w : Fin 128) (o : Fin 256) :
    k0_pay2 v2 v15 v18 (ix3 r w o) = max ((∑ t : Fin 3 × Fin 3 × Fin 256,
      v2 (ix4 0 ⟨r.val + t.1.val, by omega⟩ ⟨w.val + t.2.1.val, by omega⟩ t.2.2) * v15 (ix2 (tapEquiv 256 2304 rfl t) o)) + v18 (ix2 0 o)) 0 := by
  pointwise [k0_pay2]
  refine congrArg₂ max (congrArg₂ (· + ·) (sum_taps_congr 256 2304 rfl _ _ fun t x hx hv => congrArg₂ (· * ·) ?_ (by rw [hx])) rfl) rfl
  simp only [add_comm 1 r.val, add_comm 1 w.val, add_comm 2 r.val, add_comm 2 w.val]
  exact ladder (C := 256) (fun ky kx c => v2 (ix4 0 ⟨r.val + ky.val, by omega⟩ ⟨w.val + kx.val, by omega⟩ c)) t x.val hv (by omega)

/-- The first body's column maxima over its rows: the first 128 output channels. -/
theorem k0_pay3_apply (v2 : Vec Ideal S1x34x130x256 .bf16) (v15 : Vec Ideal S2304x256 .bf16) (v18 : Vec Ideal S1x256 .f32)
    (w : Fin 128) (o : Fin 128) :
    k0_pay3 v2 v15 v18 (ix2 w o) = Finset.univ.sup fun r : Fin 32 => k0_pay2 v2 v15 v18 (ix3 r w ⟨o.val, by omega⟩) := by
  unfold k0_pay3
  pointwise
  rw [negInf]
  rfl

/-- The column maxima as stored at an image's first tile. -/
theorem k0_pay5_apply (v2 : Vec Ideal S1x34x130x256 .bf16) (v15 : Vec Ideal S2304x256 .bf16) (v18 : Vec Ideal S1x256 .f32)
    (w : Fin 128) (o : Fin 128) : k0_pay5 v2 v15 v18 (ix3 0 w o) = k0_pay3 v2 v15 v18 (ix2 w o) := by
  unfold k0_pay5
  pointwise

/-- The column maxima as stored at an image's later tiles: the larger of what was there and this tile's. -/
theorem k0_pay1_apply (v27 : FVec Ideal S128x128 .f32) (v39 : Vec Ideal S1x128x128 .f32) (w : Fin 128) (o : Fin 128) :
    k0_pay1 v27 v39 (ix3 0 w o) = max (v39 (ix3 0 w o)) (v27 (ix2 w o)) := by
  unfold k0_pay1
  pointwise

/-- The first body's row maxima over the columns: the last 128 output channels. -/
theorem k0_pay4_apply (v2 : Vec Ideal S1x34x130x256 .bf16) (v15 : Vec Ideal S2304x256 .bf16) (v18 : Vec Ideal S1x256 .f32)
    (r : Fin 32) (o : Fin 128) :
    k0_pay4 v2 v15 v18 (ix3 0 r o) = Finset.univ.sup fun w : Fin 128 => k0_pay2 v2 v15 v18 (ix3 r w ⟨128 + o.val, by omega⟩) := by
  unfold k0_pay4
  pointwise
  rw [negInf]
  rfl

/-- The row mask of the second body's pooled rows: a row of the image, two rows of border on either side. -/
theorem rowMask2 : ∀ (k : Fin 4) (r : Fin 36),
    IntOp.andi (IntOp.cmpi .sge (IntOp.addi (Scalar.subi (Scalar.muli (BitVec.ofNat 32 k.val) 32#32) 2#32) (BitVec.ofNat 32 r.val)) 0#32)
      (IntOp.cmpi .slt (IntOp.addi (Scalar.subi (Scalar.muli (BitVec.ofNat 32 k.val) 32#32) 2#32) (BitVec.ofNat 32 r.val)) 128#32)
    = if 2 ≤ 32 * k.val + r.val ∧ 32 * k.val + r.val - 2 < 128 then 1#1 else 0#1 := by decide +kernel

/-- The row mask of the second body's middle rows: a row of the image, one row of border on either side. -/
theorem rowMask1 : ∀ (k : Fin 4) (r : Fin 34),
    IntOp.andi (IntOp.cmpi .sge (IntOp.addi (Scalar.subi (Scalar.muli (BitVec.ofNat 32 k.val) 32#32) 1#32) (BitVec.ofNat 32 r.val)) 0#32)
      (IntOp.cmpi .slt (IntOp.addi (Scalar.subi (Scalar.muli (BitVec.ofNat 32 k.val) 32#32) 1#32) (BitVec.ofNat 32 r.val)) 128#32)
    = if 1 ≤ 32 * k.val + r.val ∧ 32 * k.val + r.val - 1 < 128 then 1#1 else 0#1 := by decide +kernel

/-- The column mask of the second body's pooled rows. -/
theorem colMask : ∀ w : Fin 130,
    IntOp.andi (IntOp.cmpi .sge (BitVec.ofNat 32 w.val) 1#32) (IntOp.cmpi .sle (BitVec.ofNat 32 w.val) 128#32)
    = if 1 ≤ w.val ∧ w.val - 1 < 128 then 1#1 else 0#1 := by decide +kernel

/-- The second body's pooled sum on its rows with two rows of border: row maximum plus column maximum inside the image, zero outside. -/
theorem k1_pay2_apply (i : grid1.Coords) (k : Fin 4) (hk : (i 1).val = k.val) (v2 : Vec Ideal S1x36x128 .f32) (v15 : Vec Ideal S1x128x128 .f32)
    (r : Fin 36) (w : Fin 130) (o : Fin 128) :
    k1_pay2 i v2 v15 (ix3 r w o) =
      if hh : (2 ≤ 32 * k.val + r.val ∧ 32 * k.val + r.val - 2 < 128) ∧ 1 ≤ w.val ∧ w.val - 1 < 128 then
        v2 (ix3 0 r o) + v15 (ix3 0 ⟨w.val - 1, hh.2.2⟩ o) else 0 := by
  unfold k1_pay2
  pointwise
  rw [hk, rowMask2 k r, colMask w, mask_val, mask_val, toInt_zero]
  by_cases h1 : 2 ≤ 32 * k.val + r.val ∧ 32 * k.val + r.val - 2 < 128
  · by_cases h2 : 1 ≤ w.val ∧ w.val - 1 < 128
    · rw [if_pos h1, if_pos h2, mul_one, mul_one, dif_pos (show w.val < 129 by omega), dif_neg (show ¬ w.val < 1 by omega), dif_pos ⟨h1, h2⟩]
    · rw [if_neg h2, mul_zero, mul_zero, dif_neg fun h => h2 h.2]
  · rw [if_neg h1, zero_mul, mul_zero, dif_neg fun h => h1 h.1]

/-- The second body's middle layer on its rows with one row of border. -/
theorem k1_pay8_apply (k : Fin 4) (v40 : FVec Ideal S36x130x128 .bf16) (v52 : Vec Ideal S1152x256 .bf16) (v55 : Vec Ideal S1x256 .f32)
    (v61 : Vec Ideal S1x34x128x256 .bf16) (v64 : Vec Ideal S256x256 .bf16) (v67 : Vec Ideal S1x256 .f32) (r : Fin 34) (w : Fin 128) (o : Fin 256) :
    k1_pay8 (Scalar.muli (BitVec.ofNat 32 k.val) 32#32) v40
      (extractStridedSlice S34x128x128 ![0, 0, 0] v40 slices_S36x130x128_o0_0_0_S34x128x128)
      (extractStridedSlice S34x128x128 ![0, 1, 0] v40 slices_S36x130x128_o0_1_0_S34x128x128)
      (extractStridedSlice S34x128x128 ![0, 2, 0] v40 slices_S36x130x128_o0_2_0_S34x128x128)
      (extractStridedSlice S34x128x128 ![1, 0, 0] v40 slices_S36x130x128_o1_0_0_S34x128x128)
      (extractStridedSlice S34x128x128 ![1, 1, 0] v40 slices_S36x130x128_o1_1_0_S34x128x128)
      v52 v55 v61 v64 v67 (ix3 r w o) =
    if 1 ≤ 32 * k.val + r.val ∧ 32 * k.val + r.val - 1 < 128 then
      max (((∑ t : Fin 3 × Fin 3 × Fin 128,
          v40 (ix3 ⟨r.val + t.1.val, by omega⟩ ⟨w.val + t.2.1.val, by omega⟩ t.2.2) * v52 (ix2 (tapEquiv 128 1152 rfl t) o)) + v55 (ix2 0 o))
        + ((∑ c, v61 (ix4 0 r w c) * v64 (ix2 c o)) + v67 (ix2 0 o))) 0
    else 0 := by
  unfold k1_pay8
  pointwise
  rw [rowMask1 k r, mask_val]
  split
  · rw [mul_one]
    refine congrArg₂ max (congrArg₂ (· + ·) (congrArg₂ (· + ·) (sum_taps_congr 128 1152 rfl _ _ fun t x hx hv => congrArg₂ (· * ·) ?_ (by rw [hx])) rfl) rfl) rfl
    simp only [add_comm 1 r.val, add_comm 1 w.val, add_comm 2 r.val, add_comm 2 w.val]
    exact ladder (C := 128) (fun ky kx c => v40 (ix3 ⟨r.val + ky.val, by omega⟩ ⟨w.val + kx.val, by omega⟩ c)) t x.val hv (by omega)
  · rw [mul_zero]

/-- The row `ky` below row `r`. -/
def down (ky : Fin 3) (r : Fin 32) : Fin 34 :=
  match ky with
  | 0 => ⟨r.val, by omega⟩
  | 1 => ⟨1 + r.val, by omega⟩
  | 2 => ⟨2 + r.val, by omega⟩

/-- The row `ky` below row `r`, as a sum. -/
theorem down_eq (ky : Fin 3) (r : Fin 32) : down ky r = ⟨r.val + ky.val, by omega⟩ := by
  refine Fin.ext ?_
  match ky with
  | 0 => rfl
  | 1 => exact Nat.add_comm 1 r.val
  | 2 => exact Nat.add_comm 2 r.val

/-- The second body's last convolution at a pixel and an output channel. -/
theorem k1_pay1_apply (v88 : FVec Ideal S34x128x256 .f32) (v106 : Vec Ideal S2304x256 .bf16) (v109 : Vec Ideal S1x256 .f32)
    (r : Fin 32) (w : Fin 128) (o : Fin 256) :
    k1_pay1 v88 v106 v109 (ix4 0 r w o) = max ((∑ t : Fin 3 × Fin 3 × Fin 256,
      (if hw : 1 ≤ w.val + t.2.1.val ∧ w.val + t.2.1.val - 1 < 128 then
        v88 (ix3 ⟨r.val + t.1.val, by omega⟩ ⟨w.val + t.2.1.val - 1, hw.2⟩ t.2.2) else 0) * v106 (ix2 (tapEquiv 256 2304 rfl t) o)) + v109 (ix2 0 o)) 0 := by
  unfold k1_pay1
  pointwise
  refine congrArg₂ max (congrArg₂ (· + ·) (sum_taps_congr 256 2304 rfl _ _ fun t x hx hv => congrArg₂ (· * ·) ?_ (by rw [hx])) rfl) rfl
  refine (ladder (C := 256) (fun ky kx c => match kx with
    | 0 => if _h : w.val < 129 then if _h : w.val < 1 then (((0#32 : BitVec 32).toInt : ℝ) : EReal) else v88 (ix3 (down ky r) ⟨w.val - 1, by omega⟩ c)
      else (((0#32 : BitVec 32).toInt : ℝ) : EReal)
    | 1 => if _h : 1 + w.val < 129 then v88 (ix3 (down ky r) w c) else (((0#32 : BitVec 32).toInt : ℝ) : EReal)
    | 2 => if _h : 2 + w.val < 129 then if _h : 2 + w.val < 1 then (((0#32 : BitVec 32).toInt : ℝ) : EReal) else
        v88 (ix3 (down ky r) ⟨2 + w.val - 1, by omega⟩ c) else (((0#32 : BitVec 32).toInt : ℝ) : EReal)) t x.val hv (by omega)).trans ?_
  clear hx hv
  obtain ⟨ky, kx, c⟩ := t
  rw [toInt_zero]
  match kx with
  | 0 =>
    by_cases h2 : w.val < 1
    · refine (dif_pos (by omega : w.val < 129)).trans ((dif_pos h2).trans (Eq.symm (dif_neg ?_)))
      show ¬ (1 ≤ w.val + 0 ∧ w.val + 0 - 1 < 128)
      omega
    · refine (dif_pos (by omega : w.val < 129)).trans ((dif_neg h2).trans (Eq.trans ?_ (dif_pos (by simp; omega)).symm))
      rw [down_eq]
      rfl
  | 1 =>
    refine (dif_pos (by omega : 1 + w.val < 129)).trans (Eq.trans ?_ (dif_pos (by simp)).symm)
    rw [down_eq]
    rfl
  | 2 =>
    by_cases h1 : 2 + w.val < 129
    · refine (dif_pos h1).trans ((dif_neg (by omega : ¬ 2 + w.val < 1)).trans (Eq.trans ?_ (dif_pos (by simp; omega)).symm))
      rw [down_eq]
      exact congrArg (fun q => v88 (ix3 _ q c)) (Fin.ext (by simp; omega))
    · refine (dif_neg h1).trans (Eq.symm (dif_neg ?_))
      show ¬ (1 ≤ w.val + 2 ∧ w.val + 2 - 1 < 128)
      omega

end Cert.KernelIdeal.Val

end
-- ==== Proof.Blocks.lean ====
module

public import proofs.«01_k».proof.Proof.KernelIdeal.Conv
public import proofs.«01_k».proof.Proof.Payload
public import Idealize.ShloMosaic.Lib.Pipeline.ValueKit

/-!
# The blocks of the two grids

Each grid has 32 points: point `t` works on image `t / 4` and on its rows `32 * (t % 4)` to `32 * (t % 4) + 31`.
-/

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem

variable (V : (c : Dev nD) → (b : Ref sig .tc) → Buf (Elt Ideal) ((c : Thread nD τ).loc b))

/-- The image of a point of the grids. -/
def img (t : Fin 32) : Fin 8 := ⟨t.val / 4, by omega⟩

/-- The tile of rows of a point of the grids. -/
def tile (t : Fin 32) : Fin 4 := ⟨t.val % 4, by omega⟩

/-- The first grid's second coordinate is the tile of rows. -/
theorem coord0 : ∀ t : Fin cfg0.N, (grid0.coords t 1).val = t.val % 4 := (by decide +kernel : ∀ t : Fin grid0.N, _)

/-- The second grid's second coordinate is the tile of rows. -/
theorem coord1 : ∀ t : Fin cfg1.N, (grid1.coords t 1).val = t.val % 4 := (by decide +kernel : ∀ t : Fin grid1.N, _)

/-- The blocks of the first grid's windows. -/
theorem idx0 : ∀ t : Fin cfg0.N, win0_0.index t = ![t.val / 4, 0, 0, 0] ∧ win0_1.index t = ![0, 0] ∧ win0_2.index t = ![0, 0]
    ∧ win0_3.index t = ![t.val / 4, 0, 0] ∧ win0_4.index t = ![t.val / 4, t.val % 4, 0] :=
  (by decide +kernel : ∀ t : Fin grid0.N, _)

/-- The blocks of the second grid's windows. -/
theorem idx1 : ∀ t : Fin cfg1.N, win1_0.index t = ![t.val / 4, 0, 0, 0] ∧ win1_1.index t = ![t.val / 4, 0, 0]
    ∧ win1_2.index t = ![t.val / 4, 0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![t.val / 4, t.val % 4, 0, 0] :=
  (by decide +kernel : ∀ t : Fin grid1.N, _)

/-- The first grid's first input at a point, read on the rows of the tile with their border. -/
theorem ld0 (c : Dev nD) (t : Fin cfg0.N) (inb) (r : Fin 34) (w : Fin 130) (ch : Fin 256) :
    View.ld (iblk0 V c 0 t) (Rect.unit (k0_off1 (grid0.coords t)) S1x34x130x256.size inb) (ix4 0 r w ch)
      = V c main_v2 (ix4 (img t) ⟨32 * (tile t).val + r.val, by unfold tile; dsimp only; omega⟩ w ch) := by
  rw [View.ld_unit_apply_of (iblk0 V c 0 t) _ _ _ _ (ix4 0 ⟨32 * (tile t).val + r.val, by unfold tile; dsimp only; omega⟩ w ch) (fun a => by
    refine Eq.trans ?_ (congrArg (· + _) (congrFun (k0_off1_eq _) a)).symm
    match a with
    | ⟨0, _⟩ => rfl
    | ⟨1, _⟩ =>
      show 32 * (t.val % 4) + r.val = 32 * (_ : Fin 4).val + r.val
      rw [coord0 t]
    | ⟨2, _⟩ => exact (Nat.zero_add _).symm
    | ⟨3, _⟩ => exact (Nat.zero_add _).symm)]
  unfold img
  blk_ext! [iblk0, idx0 t]

/-- The weights of the first grid, at every point. -/
theorem iblk0_1 (c : Dev nD) (t : Fin cfg0.N) (i : Fin 2304) (o : Fin 256) : iblk0 V c 1 t (ix2 i o) = V c main_v28 (ix2 i o) := by
  blk_ext! [iblk0, idx0 t]

/-- The shifts of the first grid, at every point. -/
theorem iblk0_2 (c : Dev nD) (t : Fin cfg0.N) (o : Fin 256) : iblk0 V c 2 t (ix2 0 o) = V c main_v29 (ix2 0 o) := by
  blk_ext! [iblk0, idx0 t]

/-- The second grid's image at a point, read on the rows of the tile with their border and on the columns inside. -/
theorem ld1_0 (c : Dev nD) (t : Fin cfg1.N) (inb) (r : Fin 34) (w : Fin 128) (ch : Fin 256) :
    View.ld (iblk1 V c 0 t) (Rect.unit (k1_off2 (grid1.coords t)) S1x34x128x256.size inb) (ix4 0 r w ch)
      = V c main_v2 (ix4 (img t) ⟨32 * (tile t).val + r.val, by unfold tile; dsimp only; omega⟩ ⟨w.val + 1, by omega⟩ ch) := by
  rw [View.ld_unit_apply_of (iblk1 V c 0 t) _ _ _ _ (ix4 0 ⟨32 * (tile t).val + r.val, by unfold tile; dsimp only; omega⟩ ⟨w.val + 1, by omega⟩ ch) (fun a => by
    refine Eq.trans ?_ (congrArg (· + _) (congrFun (k1_off2_eq _) a)).symm
    match a with
    | ⟨0, _⟩ => rfl
    | ⟨1, _⟩ =>
      show 32 * (t.val % 4) + r.val = 32 * (_ : Fin 4).val + r.val
      rw [coord1 t]
    | ⟨2, _⟩ => exact (Nat.add_comm _ _)
    | ⟨3, _⟩ => exact (Nat.zero_add _).symm)]
  unfold img
  blk_ext! [iblk1, idx1 t]

/-- The second grid's column maxima at a point. -/
theorem iblk1_1 (c : Dev nD) (t : Fin cfg1.N) (w o : Fin 128) :
    iblk1 V c 1 t (ix3 0 w o) = V c main_v69_0 (ix3 (img t) w o) := by
  unfold img
  blk_ext! [iblk1, idx1 t]

/-- The second grid's row maxima at a point, read on the rows of the tile with two rows of border on either side. -/
theorem ld1_2 (c : Dev nD) (t : Fin cfg1.N) (inb) (r : Fin 36) (o : Fin 128) :
    View.ld (iblk1 V c 2 t) (Rect.unit (k1_off1 (grid1.coords t)) S1x36x128.size inb) (ix3 0 r o)
      = V c main_v70 (ix3 (img t) ⟨32 * (tile t).val + r.val, by unfold tile; dsimp only; omega⟩ o) := by
  rw [View.ld_unit_apply_of (iblk1 V c 2 t) _ _ _ _ (ix3 0 ⟨32 * (tile t).val + r.val, by unfold tile; dsimp only; omega⟩ o) (fun a => by
    refine Eq.trans ?_ (congrArg (· + _) (congrFun (k1_off1_eq _) a)).symm
    match a with
    | ⟨0, _⟩ => rfl
    | ⟨1, _⟩ =>
      show 32 * (t.val % 4) + r.val = 32 * (_ : Fin 4).val + r.val
      rw [coord1 t]
    | ⟨2, _⟩ => exact (Nat.zero_add _).symm)]
  unfold img
  blk_ext! [iblk1, idx1 t]

/-- The weights of the convolution of the pooled sum, at every point. -/
theorem iblk1_3 (c : Dev nD) (t : Fin cfg1.N) (i : Fin 1152) (o : Fin 256) : iblk1 V c 3 t (ix2 i o) = V c main_v42 (ix2 i o) := by
  blk_ext! [iblk1, idx1 t]

/-- Its shifts. -/
theorem iblk1_4 (c : Dev nD) (t : Fin cfg1.N) (o : Fin 256) : iblk1 V c 4 t (ix2 0 o) = V c main_v41 (ix2 0 o) := by
  blk_ext! [iblk1, idx1 t]

/-- The weights of the 1×1 convolution. -/
theorem iblk1_5 (c : Dev nD) (t : Fin cfg1.N) (i o : Fin 256) : iblk1 V c 5 t (ix2 i o) = V c main_v55 (ix2 i o) := by
  blk_ext! [iblk1, idx1 t]

/-- Its shifts. -/
theorem iblk1_6 (c : Dev nD) (t : Fin cfg1.N) (o : Fin 256) : iblk1 V c 6 t (ix2 0 o) = V c main_v54 (ix2 0 o) := by
  blk_ext! [iblk1, idx1 t]

/-- The weights of the last convolution. -/
theorem iblk1_7 (c : Dev nD) (t : Fin cfg1.N) (i : Fin 2304) (o : Fin 256) : iblk1 V c 7 t (ix2 i o) = V c main_v68 (ix2 i o) := by
  blk_ext! [iblk1, idx1 t]

/-- Its shifts. -/
theorem iblk1_8 (c : Dev nD) (t : Fin cfg1.N) (o : Fin 256) : iblk1 V c 8 t (ix2 0 o) = V c main_v67 (ix2 0 o) := by
  blk_ext! [iblk1, idx1 t]

end Cert.KernelIdeal.Val

end
-- ==== Proof.Pooling.lean ====
module

public import proofs.«01_k».proof.Proof.Blocks

/-!
# The column and row maxima the first grid leaves
-/

@[expose] public section

set_option maxRecDepth 16384

noncomputable section

namespace Cert.KernelIdeal.Val

open Cert.KernelIdeal Cert.KernelIdeal.Gen Cert.KernelIdeal.Run Cert.Proof
open Idealize.ShloMosaic Idealize.ShloMosaic.TcCoe Idealize.SL.Sem

variable (V : (c : Dev nD) → (b : Ref sig .tc) → Buf (Elt Ideal) ((c : Thread nD τ).loc b))

/-- What the first grid finds in its three inputs: the bordered images, the scaled weights and the shifts of the two pooled branches. -/
structure In0 (c : Dev nD) (N : Fin 8 → Net) : Prop where
  /-- The images with their border. -/
  x : ∀ (b : Fin 8) (h w : Fin 130) (ch : Fin 256), V c main_v2 (ix4 b h w ch) = padded ((N b).x ch) h.val w.val
  /-- The scaled weights of the first branch. -/
  w1 : ∀ (b : Fin 8) (t : Fin 3 × Fin 3 × Fin 256) (o : Fin 128),
    V c main_v28 (ix2 (tapEquiv 256 2304 rfl t) ⟨o.val, by omega⟩) = (N b).w1 o t.1 t.2.1 t.2.2 * (N b).s1 o
  /-- The scaled weights of the second branch. -/
  w2 : ∀ (b : Fin 8) (t : Fin 3 × Fin 3 × Fin 256) (o : Fin 128),
    V c main_v28 (ix2 (tapEquiv 256 2304 rfl t) ⟨128 + o.val, by omega⟩) = (N b).w2 o t.1 t.2.1 t.2.2 * (N b).s2 o
  /-- The shifts of the first branch. -/
  b1 : ∀ (b : Fin 8) (o : Fin 128), V c main_v29 (ix2 0 ⟨o.val, by omega⟩) = (N b).b1 o - (N b).m1 o * (N b).s1 o
  /-- The shifts of the second branch. -/
  b2 : ∀ (b : Fin 8) (o : Fin 128), V c main_v29 (ix2 0 ⟨128 + o.val, by omega⟩) = (N b).b2 o - (N b).m2 o * (N b).s2 o

variable {V} {c : Dev nD} {N : Fin 8 → Net} (H : In0 V c N)

include H

/-- The first branch at a point of the grid: its tile of rows. -/
theorem tile_p1 (t : Fin cfg0.N) (inb) (r : Fin 32) (w o : Fin 128) :
    k0_pay2 (View.ld (iblk0 V c 0 t) (Rect.unit (k0_off1 (grid0.coords t)) S1x34x130x256.size inb)) (iblk0 V c 1 t) (iblk0 V c 2 t) (ix3 r w ⟨o.val, by omega⟩)
      = (N (img t)).p1F o ⟨32 * (tile t).val + r.val, by omega⟩ w := by
  rw [k0_pay2_apply]
  unfold Net.p1F conv
  refine congrArg₂ max (congrArg₂ (· + ·) (Finset.sum_congr rfl fun x _ => congrArg₂ (· * ·) ?_ ?_) ?_) rfl
  · rw [ld0, H.x]
    exact congrArg (fun h => padded _ h _) (Nat.add_assoc _ _ _).symm
  · exact (iblk0_1 V c t _ _).trans (H.w1 (img t) x o)
  · exact (iblk0_2 V c t _).trans (H.b1 (img t) o)

/-- The second branch at a point of the grid: its tile of rows. -/
theorem tile_p2 (t : Fin cfg0.N) (inb) (r : Fin 32) (w o : Fin 128) :
    k0_pay2 (View.ld (iblk0 V c 0 t) (Rect.unit (k0_off1 (grid0.coords t)) S1x34x130x256.size inb)) (iblk0 V c 1 t) (iblk0 V c 2 t) (ix3 r w ⟨128 + o.val, by omega⟩)
      = (N (img t)).p2F o ⟨32 * (tile t).val + r.val, by omega⟩ w := by
  rw [k0_pay2_apply]
  unfold Net.p2F conv
  refine congrArg₂ max (congrArg₂ (· + ·) (Finset.sum_congr rfl fun x _ => congrArg₂ (· * ·) ?_ ?_) ?_) rfl
  · rw [ld0, H.x]
    exact congrArg (fun h => padded _ h _) (Nat.add_assoc _ _ _).symm
  · exact (iblk0_1 V c t _ _).trans (H.w2 (img t) x o)
  · exact (iblk0_2 V c t _).trans (H.b2 (img t) o)

omit H

/-- The rows below row `n`. -/
def below (n : ℕ) : Finset (Fin 128) := Finset.univ.filter fun r => r.val < n

/-- Every row is below 128. -/
theorem below_all : below 128 = Finset.univ := Finset.filter_true_of_mem fun r _ => r.isLt

/-- The maximum over the rows below `n`, then over the 32 rows from `n`. -/
theorem sup_below_add (f : Fin 128 → EReal) (n : ℕ) (hn : n + 32 ≤ 128) :
    (below (n + 32)).sup f = max ((below n).sup f) (Finset.univ.sup fun r : Fin 32 => f ⟨n + r.val, by omega⟩) := by
  refine le_antisymm (Finset.sup_le fun r hr => ?_) (max_le (Finset.sup_le fun r hr => ?_) (Finset.sup_le fun r _ => ?_))
  · have hr' : r.val < n + 32 := (Finset.mem_filter.mp hr).2
    by_cases h : r.val < n
    · exact le_max_of_le_left (Finset.le_sup (f := f) (Finset.mem_filter.mpr ⟨Finset.mem_univ _, h⟩))
    · refine le_max_of_le_right ?_
      have e : r = ⟨n + (r.val - n), by omega⟩ := Fin.ext (by dsimp only; omega)
      rw [e]
      exact Finset.le_sup (f := fun r : Fin 32 => f ⟨n + r.val, by omega⟩) (Finset.mem_univ (⟨r.val - n, by omega⟩ : Fin 32))
  · have hr' : r.val < n := (Finset.mem_filter.mp hr).2
    exact Finset.le_sup (f := f) (Finset.mem_filter.mpr ⟨Finset.mem_univ _, by omega⟩)
  · exact Finset.le_sup (f := f) (Finset.mem_filter.mpr ⟨Finset.mem_univ _, by dsimp only; omega⟩)

/-- No row is below row 0. -/
theorem sup_below_zero (f : Fin 128 → EReal) : (below 0).sup f = ⊥ := by
  unfold below
  simp

include H

/-- The tile's column maxima at a point of the grid. -/
theorem tile_max (t : Fin cfg0.N) (inb) (w o : Fin 128) :
    k0_pay3 (View.ld (iblk0 V c 0 t) (Rect.unit (k0_off1 (grid0.coords t)) S1x34x130x256.size inb)) (iblk0 V c 1 t) (iblk0 V c 2 t) (ix2 w o)
      = Finset.univ.sup fun r : Fin 32 => (N (img t)).p1F o ⟨32 * (tile t).val + r.val, by omega⟩ w := by
  rw [k0_pay3_apply]
  exact congrArg (Finset.sup _) (funext fun r => tile_p1 H t inb r w o)

/-- The column maxima after a point of the grid: over the rows of its image's tiles up to its own. -/
theorem col_at : ∀ (n : ℕ) (hn : n < cfg0.N) (w o : Fin 128),
    (outsAt0 V c n hn).1 (ix3 0 w o) = (below (32 * (n % 4) + 32)).sup fun h => (N (img ⟨n, hn⟩)).p1F o h w := by
  intro n
  induction n with
  | zero =>
    intro hn w o
    have e := outsAt0_A V c ⟨0, hn⟩ rfl (Nat.not_succ_le_zero 0)
    refine (congrArg (fun p => p.1 (ix3 0 w o)) e).trans ?_
    frame_out
    rw [k0_pay5_apply, tile_max H, sup_below_add _ _ (by omega), sup_below_zero, bot_sup_eq]
    rfl
  | succ n ih =>
    intro hn w o
    have hn' : n + 1 < 32 := hn
    by_cases h0 : (n + 1) % 4 = 0
    · have e := outsAt0_A V c ⟨n + 1, hn⟩ h0 (by dsimp only; omega)
      refine (congrArg (fun p => p.1 (ix3 0 w o)) e).trans ?_
      frame_out
      rw [k0_pay5_apply, tile_max H, sup_below_add _ _ (by omega),
        (by rw [h0] : below (32 * ((n + 1) % 4)) = below 0), sup_below_zero, bot_sup_eq]
      rfl
    · have e := outsAt0_B V c ⟨n + 1, hn⟩ h0 (by dsimp only; omega)
      refine (congrArg (fun p => p.1 (ix3 0 w o)) e).trans ?_
      frame_out
      rw [k0_pay1_apply, tile_max H, sup_below_add _ _ (by omega)]
      refine congrArg₂ max ?_ rfl
      refine (ih (by omega) w o).trans ?_
      have e1 : img ⟨n, Nat.lt_of_succ_lt hn⟩ = img ⟨n + 1, hn⟩ := Fin.ext (by show n / 4 = (n + 1) / 4; omega)
      have e2 : 32 * (n % 4) + 32 = 32 * ((n + 1) % 4) := by omega
      rw [e2]
      exact congrArg (Finset.sup _) (funext fun h => congrArg (fun b => (N b).p1F o h w) e1)

/-- The row maxima after a point of the grid: its tile's. -/
theorem row_at (t : Fin cfg0.N) (r : Fin 32) (o : Fin 128) :
    (outsAt0 V c t.val t.isLt).2 (ix3 0 r o) = Finset.univ.sup fun w => (N (img t)).p2F o ⟨32 * (tile t).val + r.val, by omega⟩ w := by
  by_cases h0 : t.val % 4 = 0
  · have e := outsAt0_A V c t h0 (by omega)
    refine (congrArg (fun p => p.2 (ix3 0 r o)) e).trans ?_
    frame_out
    rw [k0_pay4_apply]
    exact congrArg (Finset.sup _) (funext fun w => tile_p2 H t _ r w o)
  · have e := outsAt0_B V c t h0 (by omega)
    refine (congrArg (fun p => p.2 (ix3 0 r o)) e).trans ?_
    frame_out
    rw [k0_pay4_apply]
    exact congrArg (Finset.sup _) (funext fun w => tile_p2 H t _ r w o)

/-- The column maxima the first grid leaves. -/
theorem final_col : (dat0 V c).arrAt 3 cfg0.N
    = fun i : S8x128x128.Idx => Finset.univ.sup fun h => (N (i 0)).p1F (i 2) h (i 1) := by
  refine (dat0 V c).arrAt_eq_of_covers 3 _ (by decide +kernel) fun t ht y => ?_
  have h3 : t.val % 4 = 3 := (flush0_3 t).mp ht
  blk_simp [idx0 t]
  rw [after0_3]
  have ey : y = ix3 0 (y 1) (y 2) := by blk_ext
  have ei : (win0_3.blk t).view.emb y = ix3 (img t) (y 1) (y 2) := by
    unfold img
    blk_ext [idx0 t]
  rw [ei]
  refine (congrArg _ ey).trans ((col_at H t.val t.isLt _ _).trans ?_)
  rw [h3, below_all]
  rfl

/-- The row maxima the first grid leaves. -/
theorem final_row : (dat0 V c).arrAt 4 cfg0.N
    = fun i : S8x128x128.Idx => Finset.univ.sup fun w => (N (i 0)).p2F (i 2) (i 1) w := by
  refine (dat0 V c).arrAt_eq_of_covers 4 _ (by decide +kernel) fun t ht y => ?_
  blk_simp [idx0 t]
  rw [after0_4]
  have ey : y = ix3 0 (y 1) (y 2) := by blk_ext
  have ei : (win0_4.blk t).view.emb y = ix3 (img t) ⟨32 * (tile t).val + (y 1).val, by idx_bounds y; unfold tile; dsimp only; omega⟩ (y 2) := by
    unfold img tile
    blk_ext [idx0 t]
  rw [ei]
  exact (congrArg _ ey).trans (row_at H t _ _)

end Cert.KernelIdeal.Val

end
-- ==== Proof.Convolving.lean ====
module

public import proofs.«01_k».proof.Proof.Blocks

/-!
# The output the second grid leaves
-/

@[expose] public section

set_option maxRecDepth 16384

noncomputable section

namespace Cert.KernelIdeal.Val

open Cert.KernelIdeal Cert.KernelIdeal.Gen Cert.KernelIdeal.Run Cert.Proof
open Idealize.ShloMosaic Idealize.ShloMosaic.TcCoe Idealize.SL.Sem

variable (V : (c : Dev nD) → (b : Ref sig .tc) → Buf (Elt Ideal) ((c : Thread nD τ).loc b))

/-- What the second grid finds in its nine inputs: the bordered images, the maxima, the scaled weights and the shifts. -/
structure In1 (c : Dev nD) (N : Fin 8 → Net) : Prop where
  /-- The images with their border. -/
  x : ∀ (b : Fin 8) (h w : Fin 130) (ch : Fin 256), V c main_v2 (ix4 b h w ch) = padded ((N b).x ch) h.val w.val
  /-- The column maxima of the first branch. -/
  col : ∀ (b : Fin 8) (w o : Fin 128), V c main_v69_0 (ix3 b w o) = Finset.univ.sup fun h => (N b).p1F o h w
  /-- The row maxima of the second branch, with two rows of border on either side. -/
  row : ∀ (b : Fin 8) (r : Fin 132) (o : Fin 128) (h : 2 ≤ r.val ∧ r.val - 2 < 128),
    V c main_v70 (ix3 b r o) = Finset.univ.sup fun w => (N b).p2F o ⟨r.val - 2, h.2⟩ w
  /-- The scaled weights of the convolution of the pooled sum. -/
  wp : ∀ (b : Fin 8) (t : Fin 3 × Fin 3 × Fin 128) (o : Fin 256),
    V c main_v42 (ix2 (tapEquiv 128 1152 rfl t) o) = (N b).wp o t.1 t.2.1 t.2.2 * (N b).sp o
  /-- Its shifts. -/
  bp : ∀ (b : Fin 8) (o : Fin 256), V c main_v41 (ix2 0 o) = (N b).bp o - (N b).mp o * (N b).sp o
  /-- The scaled weights of the 1×1 convolution. -/
  wc : ∀ (b : Fin 8) (ch o : Fin 256), V c main_v55 (ix2 ch o) = (N b).wc o ch * (N b).sc o
  /-- Its shifts. -/
  bc : ∀ (b : Fin 8) (o : Fin 256), V c main_v54 (ix2 0 o) = (N b).bc o - (N b).mc o * (N b).sc o
  /-- The scaled weights of the last convolution. -/
  wo : ∀ (b : Fin 8) (t : Fin 3 × Fin 3 × Fin 256) (o : Fin 256),
    V c main_v68 (ix2 (tapEquiv 256 2304 rfl t) o) = (N b).wo o t.1 t.2.1 t.2.2 * (N b).so o
  /-- Its shifts. -/
  bo : ∀ (b : Fin 8) (o : Fin 256), V c main_v67 (ix2 0 o) = (N b).bo o - (N b).mo o * (N b).so o

variable {V} {c : Dev nD} {N : Fin 8 → Net} (H : In1 V c N)

include H

/-- The pooled sum at a point of the grid: its tile of rows with two rows of border on either side. -/
theorem tile_pool (t : Fin cfg1.N) (inb) (r : Fin 36) (w : Fin 130) (o : Fin 128) (hr : 1 ≤ 32 * (tile t).val + r.val) :
    k1_pay2 (grid1.coords t) (View.ld (iblk1 V c 2 t) (Rect.unit (k1_off1 (grid1.coords t)) S1x36x128.size inb)) (iblk1 V c 1 t) (ix3 r w o)
      = padded ((N (img t)).poolF o) (32 * (tile t).val + r.val - 1) w.val := by
  rw [k1_pay2_apply _ (tile t) (coord1 t)]
  unfold padded
  by_cases h : (2 ≤ 32 * (tile t).val + r.val ∧ 32 * (tile t).val + r.val - 2 < 128) ∧ 1 ≤ w.val ∧ w.val - 1 < 128
  · have h' : (1 ≤ 32 * (tile t).val + r.val - 1 ∧ 32 * (tile t).val + r.val - 1 - 1 < 128) ∧ 1 ≤ w.val ∧ w.val - 1 < 128 := ⟨by omega, h.2⟩
    rw [dif_pos h, dif_pos h']
    unfold Net.poolF
    refine congrArg₂ (· + ·) ?_ ?_
    · exact (ld1_2 V c t inb r o).trans (H.row (img t) _ o h.1)
    · exact (iblk1_1 V c t _ o).trans (H.col (img t) _ o)
  · have h' : ¬ ((1 ≤ 32 * (tile t).val + r.val - 1 ∧ 32 * (tile t).val + r.val - 1 - 1 < 128) ∧ 1 ≤ w.val ∧ w.val - 1 < 128) := fun hh => h ⟨by omega, hh.2⟩
    rw [dif_neg h, dif_neg h']

/-- The middle layer at a point of the grid: its tile of rows with one row of border on either side. -/
theorem tile_mid (t : Fin cfg1.N) (v2 : Vec Ideal S1x36x128 .f32) (inb) (hv2 : v2 = View.ld (iblk1 V c 2 t) (Rect.unit (k1_off1 (grid1.coords t)) S1x36x128.size inb)) (inb')
    (r : Fin 34) (w : Fin 128) (o : Fin 256) :
    k1_pay8 (Scalar.muli (BitVec.ofNat 32 (grid1.coords t 1).val) 32#32) (k1_pay2 (grid1.coords t) v2 (iblk1 V c 1 t))
      (k1_pay3 (grid1.coords t) v2 (iblk1 V c 1 t)) (k1_pay4 (grid1.coords t) v2 (iblk1 V c 1 t)) (k1_pay5 (grid1.coords t) v2 (iblk1 V c 1 t))
      (k1_pay6 (grid1.coords t) v2 (iblk1 V c 1 t)) (k1_pay7 (grid1.coords t) v2 (iblk1 V c 1 t))
      (iblk1 V c 3 t) (iblk1 V c 4 t) (View.ld (iblk1 V c 0 t) (Rect.unit (k1_off2 (grid1.coords t)) S1x34x128x256.size inb'))
      (iblk1 V c 5 t) (iblk1 V c 6 t) (ix3 r w o)
    = if h : 1 ≤ 32 * (tile t).val + r.val ∧ 32 * (tile t).val + r.val - 1 < 128 then
        (N (img t)).midF o ⟨32 * (tile t).val + r.val - 1, h.2⟩ w else 0 := by
  rw [coord1 t]
  refine (k1_pay8_apply (tile t) _ _ _ _ _ _ r w o).trans ?_
  by_cases h : 1 ≤ 32 * (tile t).val + r.val ∧ 32 * (tile t).val + r.val - 1 < 128
  · rw [if_pos h, dif_pos h]
    unfold Net.midF conv
    refine congrArg₂ max (congrArg₂ (· + ·)
      (congrArg₂ (· + ·) (Finset.sum_congr rfl fun x _ => congrArg₂ (· * ·) ?_ ?_) ?_)
      (congrArg₂ (· + ·) (Finset.sum_congr rfl fun x _ => congrArg₂ (· * ·) ?_ ?_) ?_)) rfl
    · rw [hv2, tile_pool H t inb _ _ _ (by dsimp only; omega)]
      refine congrArg (fun h => padded _ h _) ?_
      dsimp only
      omega
    · exact (iblk1_3 V c t _ _).trans (H.wp (img t) x o)
    · exact (iblk1_4 V c t _).trans (H.bp (img t) o)
    · rw [ld1_0, H.x]
      unfold padded
      exact dif_pos ⟨h, by dsimp only; omega⟩
    · exact (iblk1_5 V c t _ _).trans (H.wc (img t) x o)
    · exact (iblk1_6 V c t _).trans (H.bc (img t) o)
  · rw [if_neg h, dif_neg h]

/-- The output at a point of the grid: its tile of rows. -/
theorem out_at (t : Fin cfg1.N) (r : Fin 32) (w : Fin 128) (o : Fin 256) :
    (outsAt1 V c t) (ix4 0 r w o) = (N (img t)).outF o ⟨32 * (tile t).val + r.val, by unfold tile; dsimp only; omega⟩ w := by
  unfold outsAt1
  frame_out
  rw [k1_pay1_apply]
  unfold Net.outF conv
  refine congrArg₂ max (congrArg₂ (· + ·) (Finset.sum_congr rfl fun x _ => congrArg₂ (· * ·) ?_ ?_) ?_) rfl
  · unfold padded
    by_cases hw : 1 ≤ w.val + x.2.1.val ∧ w.val + x.2.1.val - 1 < 128
    · refine (dif_pos hw).trans ((tile_mid H t _ _ rfl _ _ _ _).trans ?_)
      by_cases h : 1 ≤ 32 * (tile t).val + (r.val + x.1.val) ∧ 32 * (tile t).val + (r.val + x.1.val) - 1 < 128
      · have h' : (1 ≤ 32 * (tile t).val + r.val + x.1.val ∧ 32 * (tile t).val + r.val + x.1.val - 1 < 128) ∧ 1 ≤ w.val + x.2.1.val ∧ w.val + x.2.1.val - 1 < 128 := ⟨by omega, hw⟩
        refine (dif_pos h).trans (Eq.trans ?_ (dif_pos h').symm)
        refine congrArg (fun h => (N (img t)).midF x.2.2 h _) (Fin.ext ?_)
        dsimp only
        omega
      · have h' : ¬ ((1 ≤ 32 * (tile t).val + r.val + x.1.val ∧ 32 * (tile t).val + r.val + x.1.val - 1 < 128) ∧ 1 ≤ w.val + x.2.1.val ∧ w.val + x.2.1.val - 1 < 128) := fun hh => h (by omega)
        refine (dif_neg h).trans (Eq.symm (dif_neg ?_))
        exact h'
    · have h' : ¬ ((1 ≤ 32 * (tile t).val + r.val + x.1.val ∧ 32 * (tile t).val + r.val + x.1.val - 1 < 128) ∧ 1 ≤ w.val + x.2.1.val ∧ w.val + x.2.1.val - 1 < 128) := fun hh => hw hh.2
      refine (dif_neg hw).trans (Eq.symm (dif_neg ?_))
      exact h'
  · exact (iblk1_7 V c t _ _).trans (H.wo (img t) x o)
  · exact (iblk1_8 V c t _).trans (H.bo (img t) o)

/-- The output the second grid leaves. -/
theorem final_out : (dat1 V c).arrAt 9 cfg1.N = fun i : S8x128x128x256.Idx => (N (i 0)).outF (i 3) (i 1) (i 2) := by
  refine (dat1 V c).arrAt_eq_of_covers 9 _ (by decide +kernel) fun t ht y => ?_
  blk_simp [idx1 t]
  rw [after1_9]
  have ey : y = ix4 0 (y 1) (y 2) (y 3) := by blk_ext
  have ei : (win1_9.blk t).view.emb y = ix4 (img t) ⟨32 * (tile t).val + (y 1).val, by idx_bounds y; unfold tile; dsimp only; omega⟩ (y 2) (y 3) := by
    unfold img tile
    blk_ext [idx1 t]
  rw [ei]
  exact (congrArg _ ey).trans (out_at H t _ _ _)

end Cert.KernelIdeal.Val

end
-- ==== Proof.Host.lean ====
module

public import proofs.«01_k».proof.Proof.KernelIdeal.Run
public import proofs.«01_k».proof.Proof.Pooling
public import proofs.«01_k».proof.Proof.Convolving
public import Idealize.ShloMosaic.Lib.Claim
public import Idealize.ShloMosaic.Lib.Tactic.CleanTypes

/-!
# What the operations around the two grids compute

Before the first grid: the bordered images, the scaled weights and the shifts. Between the grids: the bordered row maxima.
After the second grid: the output with its channels second.
-/

@[expose] public section

set_option maxRecDepth 16384

noncomputable section

namespace Cert.KernelIdeal.Val

open Cert.KernelIdeal Cert.KernelIdeal.Gen Cert.KernelIdeal.Run Cert.Proof
open Idealize.ShloMosaic Idealize.ShloMosaic.TcCoe Idealize.SL.Sem

variable (m : (ℓ : Loc nD τ sig) → Buf (Elt Ideal) ℓ) (ρ : Dev nD → PrngReg)

/-- The network of one image of the arguments a device holds. -/
def net (c : Dev nD) (b : Fin 8) : Net :=
  netOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23))
    (m ((c : Thread nD τ).loc main_arg24)) (m ((c : Thread nD τ).loc main_arg25)) b

/-- The images with their border, before the first grid. -/
theorem host_x (c : Dev nD) (b : Fin 8) (h w : Fin 130) (ch : Fin 256) :
    V3 m ρ c main_v2 (ix4 b h w ch) = padded ((net m c b).x ch) h.val w.val := by
  show W3 m ρ c (Proc.devRef .tc main_v2) (ix4 b h w ch) = _
  rw [W3_of m ρ c main_v2 (by decide +kernel)]
  show StableHlo.after hostOps0_1 (W1 m ρ c) (Proc.devRef .tc main_v2) _ = _
  entry_read
  show pad S8x130x130x256 ![0, 1, 1, 0] ![0, 1, 1, 0] ![0, 0, 0, 0]
    (truncf (F := Ideal) FTy.bf16 (transpose S8x128x128x256 [0, 2, 3, 1] (m ((c : Thread nD τ).loc main_arg0))
      transposes_S8x256x128x128_S8x128x128x256_0_2_3_1) bitsLt_bf16_f32)
    (sitofp (F := Ideal) FTy.bf16 (constantI S_ 32 0#32)) pads_S8x128x128x256_S8x130x130x256_000_110_110_000 h_S_ (ix4 b h w ch) = _
  pointwise
  rw [show FloatOps.sitofp (F := Ideal) FTy.bf16 (0#32) = (0 : EReal) from toInt_zero]
  rfl

/-- The scaled weights of the first branch, before the first grid. -/
theorem host_w1 (c : Dev nD) (b : Fin 8) (t : Fin 3 × Fin 3 × Fin 256) (o : Fin 128) :
    V3 m ρ c main_v28 (ix2 (tapEquiv 256 2304 rfl t) ⟨o.val, by omega⟩) = (net m c b).w1 o t.1 t.2.1 t.2.2 * (net m c b).s1 o := by
  obtain ⟨i, hi⟩ : ∃ i, i = tapEquiv 256 2304 rfl t := ⟨_, rfl⟩
  have hv : i.val = t.2.2.val + 256 * t.2.1.val + 768 * t.1.val := by rw [hi]; exact tapEquiv_val 256 2304 rfl t
  rw [← hi]
  show StableHlo.after hostOps0_2 (W2 m ρ c) (Proc.devRef .tc main_v28) _ = _
  entry_read
  clean_types
  pointwise
  have e1 : (⟨i.val % 256, by omega⟩ : Fin 256) = t.2.2 := Fin.ext (by dsimp only; omega)
  have e2 : (⟨i.val / 768, by omega⟩ : Fin 3) = t.1 := Fin.ext (by dsimp only; omega)
  have e3 : (⟨i.val / 256 % 3, by omega⟩ : Fin 3) = t.2.1 := Fin.ext (by dsimp only; omega)
  rw [e1, e2, e3]
  rfl

/-- The scaled weights of the second branch, before the first grid. -/
theorem host_w2 (c : Dev nD) (b : Fin 8) (t : Fin 3 × Fin 3 × Fin 256) (o : Fin 128) :
    V3 m ρ c main_v28 (ix2 (tapEquiv 256 2304 rfl t) ⟨128 + o.val, by omega⟩) = (net m c b).w2 o t.1 t.2.1 t.2.2 * (net m c b).s2 o := by
  obtain ⟨i, hi⟩ : ∃ i, i = tapEquiv 256 2304 rfl t := ⟨_, rfl⟩
  have hv : i.val = t.2.2.val + 256 * t.2.1.val + 768 * t.1.val := by rw [hi]; exact tapEquiv_val 256 2304 rfl t
  rw [← hi]
  show StableHlo.after hostOps0_2 (W2 m ρ c) (Proc.devRef .tc main_v28) _ = _
  entry_read
  clean_types
  pointwise
  have e1 : (⟨i.val % 256, by omega⟩ : Fin 256) = t.2.2 := Fin.ext (by dsimp only; omega)
  have e2 : (⟨i.val / 768, by omega⟩ : Fin 3) = t.1 := Fin.ext (by dsimp only; omega)
  have e3 : (⟨i.val / 256 % 3, by omega⟩ : Fin 3) = t.2.1 := Fin.ext (by dsimp only; omega)
  rw [e1, e2, e3]
  rfl

/-- The shifts of the first branch, before the first grid. -/
theorem host_b1 (c : Dev nD) (b : Fin 8) (o : Fin 128) :
    V3 m ρ c main_v29 (ix2 0 ⟨o.val, by omega⟩) = (net m c b).b1 o - (net m c b).m1 o * (net m c b).s1 o := by
  show StableHlo.after hostOps0_2 (W2 m ρ c) (Proc.devRef .tc main_v29) _ = _
  entry_read
  clean_types
  pointwise
  rfl

/-- The shifts of the second branch, before the first grid. -/
theorem host_b2 (c : Dev nD) (b : Fin 8) (o : Fin 128) :
    V3 m ρ c main_v29 (ix2 0 ⟨128 + o.val, by omega⟩) = (net m c b).b2 o - (net m c b).m2 o * (net m c b).s2 o := by
  show StableHlo.after hostOps0_2 (W2 m ρ c) (Proc.devRef .tc main_v29) _ = _
  entry_read
  clean_types
  pointwise
  rfl

/-- The scaled weights of the convolution of the pooled sum, before the first grid. -/
theorem host_wp (c : Dev nD) (b : Fin 8) (t : Fin 3 × Fin 3 × Fin 128) (o : Fin 256) :
    V3 m ρ c main_v42 (ix2 (tapEquiv 128 1152 rfl t) o) = (net m c b).wp o t.1 t.2.1 t.2.2 * (net m c b).sp o := by
  obtain ⟨i, hi⟩ : ∃ i, i = tapEquiv 128 1152 rfl t := ⟨_, rfl⟩
  have hv : i.val = t.2.2.val + 128 * t.2.1.val + 384 * t.1.val := by rw [hi]; exact tapEquiv_val 128 1152 rfl t
  rw [← hi]
  show StableHlo.after hostOps0_2 (W2 m ρ c) (Proc.devRef .tc main_v42) _ = _
  entry_read
  clean_types
  pointwise
  have e1 : (⟨i.val % 128, by omega⟩ : Fin 128) = t.2.2 := Fin.ext (by dsimp only; omega)
  have e2 : (⟨i.val / 384, by omega⟩ : Fin 3) = t.1 := Fin.ext (by dsimp only; omega)
  have e3 : (⟨i.val / 128 % 3, by omega⟩ : Fin 3) = t.2.1 := Fin.ext (by dsimp only; omega)
  rw [e1, e2, e3]
  rfl

/-- Its shifts. -/
theorem host_bp (c : Dev nD) (b : Fin 8) (o : Fin 256) :
    V3 m ρ c main_v41 (ix2 0 o) = (net m c b).bp o - (net m c b).mp o * (net m c b).sp o := by
  show StableHlo.after hostOps0_2 (W2 m ρ c) (Proc.devRef .tc main_v41) _ = _
  entry_read
  clean_types
  pointwise
  rfl

/-- The scaled weights of the 1×1 convolution, before the first grid. -/
theorem host_wc (c : Dev nD) (b : Fin 8) (ch o : Fin 256) :
    V3 m ρ c main_v55 (ix2 ch o) = (net m c b).wc o ch * (net m c b).sc o := by
  show StableHlo.after hostOps0_2 (W2 m ρ c) (Proc.devRef .tc main_v55) _ = _
  entry_read
  clean_types
  pointwise
  rfl

/-- Its shifts. -/
theorem host_bc (c : Dev nD) (b : Fin 8) (o : Fin 256) :
    V3 m ρ c main_v54 (ix2 0 o) = (net m c b).bc o - (net m c b).mc o * (net m c b).sc o := by
  show StableHlo.after hostOps0_2 (W2 m ρ c) (Proc.devRef .tc main_v54) _ = _
  entry_read
  clean_types
  pointwise
  rfl

/-- The scaled weights of the last convolution, before the first grid. -/
theorem host_wo (c : Dev nD) (b : Fin 8) (t : Fin 3 × Fin 3 × Fin 256) (o : Fin 256) :
    V3 m ρ c main_v68 (ix2 (tapEquiv 256 2304 rfl t) o) = (net m c b).wo o t.1 t.2.1 t.2.2 * (net m c b).so o := by
  obtain ⟨i, hi⟩ : ∃ i, i = tapEquiv 256 2304 rfl t := ⟨_, rfl⟩
  have hv : i.val = t.2.2.val + 256 * t.2.1.val + 768 * t.1.val := by rw [hi]; exact tapEquiv_val 256 2304 rfl t
  rw [← hi]
  show StableHlo.after hostOps0_2 (W2 m ρ c) (Proc.devRef .tc main_v68) _ = _
  entry_read
  clean_types
  pointwise
  have e1 : (⟨i.val % 256, by omega⟩ : Fin 256) = t.2.2 := Fin.ext (by dsimp only; omega)
  have e2 : (⟨i.val / 768, by omega⟩ : Fin 3) = t.1 := Fin.ext (by dsimp only; omega)
  have e3 : (⟨i.val / 256 % 3, by omega⟩ : Fin 3) = t.2.1 := Fin.ext (by dsimp only; omega)
  rw [e1, e2, e3]
  rfl

/-- Its shifts. -/
theorem host_bo (c : Dev nD) (b : Fin 8) (o : Fin 256) :
    V3 m ρ c main_v67 (ix2 0 o) = (net m c b).bo o - (net m c b).mo o * (net m c b).so o := by
  show StableHlo.after hostOps0_2 (W2 m ρ c) (Proc.devRef .tc main_v67) _ = _
  entry_read
  clean_types
  pointwise
  rfl

/-- What the first grid finds. -/
theorem in0 (c : Dev nD) : In0 (V3 m ρ) c (net m c) :=
  ⟨host_x m ρ c, host_w1 m ρ c, host_w2 m ρ c, host_b1 m ρ c, host_b2 m ρ c⟩

/-- A reference that no operation between the first grid's start and the second's writes keeps its contents. -/
theorem kept (c : Dev nD) (r : Ref sig .tc) (h0 : ∀ w : Fin cfg0.W, Pipeline.arrRef spec0 w = r → (cfg0.win w).isOut = false)
    (h1 : r ∉ hostOps1_W) (h2 : r ∉ hostOps1_1_W) : V6 m ρ c r = V3 m ρ c r :=
  (W6_of m ρ c r h2).trans ((W5_of m ρ c r h1).trans (W4_of m ρ c r h0))

/-- The column maxima, before the second grid. -/
theorem host_col (c : Dev nD) (b : Fin 8) (w o : Fin 128) :
    V6 m ρ c main_v69_0 (ix3 b w o) = Finset.univ.sup fun h => (net m c b).p1F o h w := by
  show W6 m ρ c (Proc.devRef .tc main_v69_0) _ = _
  rw [W6_of m ρ c main_v69_0 (by decide +kernel), W5_of m ρ c main_v69_0 (by decide +kernel)]
  exact congrFun ((W4_arr m ρ c 3).trans (final_col (in0 m ρ c))) (ix3 b w o)

/-- Two rows of border on either side, read inside. -/
theorem pad_row (X : S8x128x128.Idx → EReal) (b : Fin 8) (r : Fin 132) (o : Fin 128) (h : 2 ≤ r.val ∧ r.val - 2 < 128) :
    pad S8x132x128 ![0, 2, 0] ![0, 2, 0] ![0, 0, 0] X (sitofp (F := Ideal) FTy.f32 (constantI S_ 32 0#32))
      pads_S8x128x128_S8x132x128_000_220_000 h_S_ (ix3 b r o) = X (ix3 b ⟨r.val - 2, h.2⟩ o) := by
  pointwise
  exact dif_pos h

/-- The row maxima with two rows of border on either side, before the second grid. -/
theorem host_row (c : Dev nD) (b : Fin 8) (r : Fin 132) (o : Fin 128) (h : 2 ≤ r.val ∧ r.val - 2 < 128) :
    V6 m ρ c main_v70 (ix3 b r o) = Finset.univ.sup fun w => (net m c b).p2F o ⟨r.val - 2, h.2⟩ w := by
  show StableHlo.after hostOps1_1 (W5 m ρ c) (Proc.devRef .tc main_v70) _ = _
  entry_read
  refine (pad_row (W4 m ρ c (Proc.devRef .tc main_v69_1)) b r o h).trans ?_
  exact congrFun ((W4_arr m ρ c 4).trans (final_row (in0 m ρ c))) (ix3 b ⟨r.val - 2, h.2⟩ o)

/-- What the second grid finds. -/
theorem in1 (c : Dev nD) : In1 (V6 m ρ) c (net m c) where
  x b h w ch := (congrFun (kept m ρ c main_v2 (by decide +kernel) (by decide +kernel) (by decide +kernel)) _).trans (host_x m ρ c b h w ch)
  col := host_col m ρ c
  row := host_row m ρ c
  wp b t o := (congrFun (kept m ρ c main_v42 (by decide +kernel) (by decide +kernel) (by decide +kernel)) _).trans (host_wp m ρ c b t o)
  bp b o := (congrFun (kept m ρ c main_v41 (by decide +kernel) (by decide +kernel) (by decide +kernel)) _).trans (host_bp m ρ c b o)
  wc b ch o := (congrFun (kept m ρ c main_v55 (by decide +kernel) (by decide +kernel) (by decide +kernel)) _).trans (host_wc m ρ c b ch o)
  bc b o := (congrFun (kept m ρ c main_v54 (by decide +kernel) (by decide +kernel) (by decide +kernel)) _).trans (host_bc m ρ c b o)
  wo b t o := (congrFun (kept m ρ c main_v68 (by decide +kernel) (by decide +kernel) (by decide +kernel)) _).trans (host_wo m ρ c b t o)
  bo b o := (congrFun (kept m ρ c main_v67 (by decide +kernel) (by decide +kernel) (by decide +kernel)) _).trans (host_bo m ρ c b o)

/-- THE KERNEL'S RESULT, entry by entry: the network with its weights scaled beforehand. -/
theorem result_apply (c : Dev nD) (b : Fin 8) (o : Fin 256) (h w : Fin 128) :
    W8 m ρ c (Proc.devRef .tc main_v72) (ix4 b o h w) = (net m c b).outF o h w := by
  show StableHlo.after hostOps2 (W7 m ρ c) (Proc.devRef .tc main_v72) _ = _
  entry_read
  clean_types
  pointwise
  exact congrFun ((W7_arr m ρ c 9).trans (final_out (in1 m ρ c))) (ix4 b h w o)

end Cert.KernelIdeal.Val

end
-- ==== Proof.Reference.lean ====
module

public import proofs.«01_k».proof.Proof.Gen.ReferenceIdeal.Run
public import proofs.«01_k».proof.Proof.Spec
public import Idealize.ShloMosaic.Lib.Tactic.CleanTypes

/-!
# The reference's result, entry by entry

Each named stage of the reference is the corresponding stage of `Net`, so the result is `Net.out`.
-/

@[expose] public section

set_option maxRecDepth 16384

noncomputable section

namespace Cert.ReferenceIdeal.Val

open Cert.ReferenceIdeal Cert.ReferenceIdeal.Gen Cert.ReferenceIdeal.Value Cert.Proof
open Idealize.ShloMosaic

/-- The integer zero, as a float, is zero. -/
theorem sitofp_zero : FloatOps.sitofp (F := Ideal) FTy.f32 (0#32) = (0 : EReal) := by
  show (((0#32 : BitVec 32).toInt : ℝ) : EReal) = 0
  simp

/-- The word of `-∞`, spread over the scalar shape, is `⊥`. -/
theorem negInf (i : S_.Idx) : broadcastInDim S_ ![] bcast_S_S_ (constant (F := Ideal) S_ .f32 0xFF800000#32) i = (⊥ : EReal) := by
  show Ideal.ofBits .f32 0xFF800000#32 = ⊥
  simp [Ideal.ofBits, Ideal.ieee]

/-- The maximum over the rows from below up to each row, of the maximum over the rows from each row on, is the maximum over all rows. -/
theorem rows_max (x : S8x128x128x128.Idx → EReal) (b : Fin 8) (o h w : Fin 128) :
    Host.reduceWindow (max : EReal → EReal → EReal) ![1, 1, 128, 1] ![1, 1, 1, 1] ![0, 0, 127, 0] ![0, 0, 0, 0]
      (Host.reduceWindow max ![1, 1, 128, 1] ![1, 1, 1, 1] ![0, 0, 0, 0] ![0, 0, 127, 0] x
        (broadcastInDim S_ ![] bcast_S_S_ (constant (F := Ideal) S_ .f32 0xFF800000#32))
        reduceWindows_S8x128x128x128_S8x128x128x128_w1s1p0_0_w1s1p0_0_w128s1p0_127_w1s1p0_0 h_S_)
      (broadcastInDim S_ ![] bcast_S_S_ (constant (F := Ideal) S_ .f32 0xFF800000#32))
      reduceWindows_S8x128x128x128_S8x128x128x128_w1s1p0_0_w1s1p0_0_w128s1p127_0_w1s1p0_0 h_S_ (ix4 b o h w)
    = Finset.univ.sup fun h' : Fin 128 => x (ix4 b o h' w) := by
  refine eq_of_forall_ge_iff fun z => ?_
  rw [reduceWindow_max_le _ _ _ _ _ _ _ _ negInf, Finset.sup_le_iff]
  constructor
  · intro H h' _
    have h1 := H (ix4 0 0 ⟨127 - h.val, by omega⟩ 0) (fun a => by
      have := b.isLt; have := o.isLt; have := h.isLt; have := w.isLt
      fin_cases a <;> simp <;> omega)
    rw [reduceWindow_max_le _ _ _ _ _ _ _ _ negInf] at h1
    have h2 := h1 (ix4 0 0 h' 0) (fun a => by
      have := b.isLt; have := o.isLt; have := h.isLt; have := w.isLt; have := h'.isLt
      fin_cases a <;> simp <;> omega)
    refine le_of_eq_of_le (congrArg x (funext fun a => Fin.ext ?_)) h2
    have := h.isLt
    fin_cases a <;> simp <;> omega
  · intro H w1 hin1
    rw [reduceWindow_max_le _ _ _ _ _ _ _ _ negInf]
    intro w2 hin2
    refine le_of_eq_of_le (congrArg x (funext fun a => ?_)) (H ⟨_, (hin2 2).2⟩ (Finset.mem_univ _))
    have e0 : (w1 0).val < 1 := (w1 0).isLt
    have e1 : (w1 1).val < 1 := (w1 1).isLt
    have e3 : (w1 3).val < 1 := (w1 3).isLt
    have f0 : (w2 0).val < 1 := (w2 0).isLt
    have f1 : (w2 1).val < 1 := (w2 1).isLt
    have f3 : (w2 3).val < 1 := (w2 3).isLt
    refine Fin.ext ?_
    fin_cases a <;> simp at e0 e1 e3 f0 f1 f3 ⊢ <;> omega

/-- The maximum over the columns from the left up to each column, of the maximum over the columns from each column on, is the maximum over all columns. -/
theorem cols_max (x : S8x128x128x128.Idx → EReal) (b : Fin 8) (o h w : Fin 128) :
    Host.reduceWindow (max : EReal → EReal → EReal) ![1, 1, 1, 128] ![1, 1, 1, 1] ![0, 0, 0, 127] ![0, 0, 0, 0]
      (Host.reduceWindow max ![1, 1, 1, 128] ![1, 1, 1, 1] ![0, 0, 0, 0] ![0, 0, 0, 127] x
        (broadcastInDim S_ ![] bcast_S_S_ (constant (F := Ideal) S_ .f32 0xFF800000#32))
        reduceWindows_S8x128x128x128_S8x128x128x128_w1s1p0_0_w1s1p0_0_w1s1p0_0_w128s1p0_127 h_S_)
      (broadcastInDim S_ ![] bcast_S_S_ (constant (F := Ideal) S_ .f32 0xFF800000#32))
      reduceWindows_S8x128x128x128_S8x128x128x128_w1s1p0_0_w1s1p0_0_w1s1p0_0_w128s1p127_0 h_S_ (ix4 b o h w)
    = Finset.univ.sup fun w' : Fin 128 => x (ix4 b o h w') := by
  refine eq_of_forall_ge_iff fun z => ?_
  rw [reduceWindow_max_le _ _ _ _ _ _ _ _ negInf, Finset.sup_le_iff]
  constructor
  · intro H w' _
    have h1 := H (ix4 0 0 0 ⟨127 - w.val, by omega⟩) (fun a => by
      have := b.isLt; have := o.isLt; have := h.isLt; have := w.isLt
      fin_cases a <;> simp <;> omega)
    rw [reduceWindow_max_le _ _ _ _ _ _ _ _ negInf] at h1
    have h2 := h1 (ix4 0 0 0 w') (fun a => by
      have := b.isLt; have := o.isLt; have := h.isLt; have := w.isLt; have := w'.isLt
      fin_cases a <;> simp <;> omega)
    refine le_of_eq_of_le (congrArg x (funext fun a => Fin.ext ?_)) h2
    have := w.isLt
    fin_cases a <;> simp <;> omega
  · intro H w1 hin1
    rw [reduceWindow_max_le _ _ _ _ _ _ _ _ negInf]
    intro w2 hin2
    refine le_of_eq_of_le (congrArg x (funext fun a => ?_)) (H ⟨_, (hin2 3).2⟩ (Finset.mem_univ _))
    have e0 : (w1 0).val < 1 := (w1 0).isLt
    have e1 : (w1 1).val < 1 := (w1 1).isLt
    have e2 : (w1 2).val < 1 := (w1 2).isLt
    have f0 : (w2 0).val < 1 := (w2 0).isLt
    have f1 : (w2 1).val < 1 := (w2 1).isLt
    have f2 : (w2 2).val < 1 := (w2 2).isLt
    refine Fin.ext ?_
    fin_cases a <;> simp at e0 e1 e2 f0 f1 f2 ⊢ <;> omega

variable (V0 : Valuation τ sig (Elt Ideal))

/-- The network of image `b` of the reference's arguments. -/
def net (b : Fin 8) : Net :=
  netOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18)) (V0 (Proc.devRef .tc main_arg19))
    (V0 (Proc.devRef .tc main_arg20)) (V0 (Proc.devRef .tc main_arg21)) (V0 (Proc.devRef .tc main_arg22)) (V0 (Proc.devRef .tc main_arg23))
    (V0 (Proc.devRef .tc main_arg24)) (V0 (Proc.devRef .tc main_arg25)) b

/-- The image with its border (first use). -/
theorem v0_apply (b : Fin 8) (c : Fin 256) (h w : Fin 130) : res_main_v0 V0 (ix4 b c h w) = padded ((net V0 b).x c) h w := by
  unfold res_main_v0; clean_types
  pointwise
  rw [sitofp_zero]
  rfl

/-- The image with its border (second use). -/
theorem v71_apply (b : Fin 8) (c : Fin 256) (h w : Fin 130) : res_main_v71 V0 (ix4 b c h w) = padded ((net V0 b).x c) h w := by
  unfold res_main_v71; clean_types
  pointwise
  rw [sitofp_zero]
  rfl

/-- The convolution of the first branch. -/
theorem v53_apply (b : Fin 8) (o h w : Fin 128) :
    res_main_v53 V0 (ix4 b o h w) = conv (net V0 b).x ((net V0 b).w1 o) h w := by
  unfold res_main_v53; clean_types
  pointwise
  simp only [v0_apply, conv, Fintype.sum_prod_type, Fin.sum_univ_three, add_assoc]
  simp only [add_comm 1 h.val, add_comm 1 w.val, add_comm 2 h.val, add_comm 2 w.val]
  rfl

/-- The convolution of the second branch. -/
theorem v124_apply (b : Fin 8) (o h w : Fin 128) :
    res_main_v124 V0 (ix4 b o h w) = conv (net V0 b).x ((net V0 b).w2 o) h w := by
  unfold res_main_v124; clean_types
  pointwise
  simp only [v71_apply, conv, Fintype.sum_prod_type, Fin.sum_univ_three, add_assoc]
  simp only [add_comm 1 h.val, add_comm 1 w.val, add_comm 2 h.val, add_comm 2 w.val]
  rfl

/-- The pooled sum with its border. -/
theorem v143_apply (b : Fin 8) (o : Fin 128) (h w : Fin 130) : res_main_v143 V0 (ix4 b o h w) = padded ((net V0 b).pool o) h w := by
  unfold res_main_v143; clean_types
  pointwise
  rw [sitofp_zero]
  unfold padded
  split
  · rw [rows_max, cols_max]
    unfold Net.pool
    refine congrArg₂ (· + ·) (congrArg _ (funext fun h' => ?_)) (congrArg _ (funext fun w' => ?_))
    · pointwise
      rw [v53_apply]
      rfl
    · pointwise
      rw [v124_apply]
      rfl
  · rfl

/-- The convolution of the pooled sum. -/
theorem v196_apply (b : Fin 8) (o : Fin 256) (h w : Fin 128) :
    res_main_v196 V0 (ix4 b o h w) = conv (net V0 b).pool ((net V0 b).wp o) h w := by
  unfold res_main_v196; clean_types
  pointwise
  simp only [v143_apply, conv, Fintype.sum_prod_type, Fin.sum_univ_three, add_assoc]
  simp only [add_comm 1 h.val, add_comm 1 w.val, add_comm 2 h.val, add_comm 2 w.val]
  rfl

/-- The middle layer with its border. -/
theorem v230_apply (b : Fin 8) (o : Fin 256) (h w : Fin 130) : res_main_v230 V0 (ix4 b o h w) = padded ((net V0 b).mid o) h w := by
  unfold res_main_v230; clean_types
  pointwise
  simp only [sitofp_zero, v196_apply]
  rfl

/-- The last convolution. -/
theorem v283_apply (b : Fin 8) (o : Fin 256) (h w : Fin 128) :
    res_main_v283 V0 (ix4 b o h w) = conv (net V0 b).mid ((net V0 b).wo o) h w := by
  unfold res_main_v283; clean_types
  pointwise
  simp only [v230_apply, conv, Fintype.sum_prod_type, Fin.sum_univ_three, add_assoc]
  simp only [add_comm 1 h.val, add_comm 1 w.val, add_comm 2 h.val, add_comm 2 w.val]
  rfl

/-- The reference's result as a term of its arguments. -/
def result : S8x256x128x128.Idx → EReal :=
  maximumf (F := Ideal) (φ := .f32) (addf (mulf (subf (res_main_v283 V0) (broadcastInDim S8x256x128x128 ![0, 1, 2, 3] bcast_S1x256x1x1_S8x256x128x128_0_1_2_3 (shapeCast _ (V0 (Proc.devRef .tc main_arg24)) shapeCasts_S256_S1x256x1x1))) (broadcastInDim S8x256x128x128 ![0, 1, 2, 3] bcast_S1x256x1x1_S8x256x128x128_0_1_2_3 (Host.divf (shapeCast _ (V0 (Proc.devRef .tc main_arg22)) shapeCasts_S256_S1x256x1x1) (Host.sqrt (addf (shapeCast _ (V0 (Proc.devRef .tc main_arg25)) shapeCasts_S256_S1x256x1x1) (broadcastInDim S1x256x1x1 ![] bcast_S_S1x256x1x1 (constant S_ .f32 0x3A83126F#32))))))) (broadcastInDim S8x256x128x128 ![0, 1, 2, 3] bcast_S1x256x1x1_S8x256x128x128_0_1_2_3 (shapeCast _ (V0 (Proc.devRef .tc main_arg23)) shapeCasts_S256_S1x256x1x1))) (broadcastInDim S8x256x128x128 ![] bcast_S_S8x256x128x128 (constant S_ .f32 0x00000000#32))

/-- THE REFERENCE'S RESULT is the network's output, image by image. -/
theorem result_apply (b : Fin 8) (o : Fin 256) (h w : Fin 128) : result V0 (ix4 b o h w) = (net V0 b).out o h w := by
  unfold result; clean_types
  pointwise
  simp only [v283_apply]
  rfl

end Cert.ReferenceIdeal.Val

end
-- ==== Proof.Regular.lean ====
module

public import proofs.«01_k».proof.Pre_finite_and_regular
public import proofs.«01_k».proof.Proof.Spec
public import Idealize.ShloMosaic.PureOps.Ideal

/-!
# What the precondition says

Every number it names is real, and every variance plus the small constant is not zero; so every scale is real, and the network
of every image is real.
-/

@[expose] public section

noncomputable section

namespace Cert.Proof

open Idealize.ShloMosaic Cert.Pre_finite_and_regular

/-- The shape relations the precondition states. -/
theorem pre_facts : Cert.Pre_finite_and_regular.Facts := by
  constructor <;> decide

/-- The bit of a number being finite. -/
def finBit (x : EReal) : BitVec 1 := Ideal.cmp .olt (max x (-x)) (Ideal.ofBits .f32 0x7F800000#32)

/-- The bit of a variance plus the small constant not being zero. -/
def regBit (v : EReal) : BitVec 1 := Ideal.cmp .une (v + Ideal.ofBits .f32 0x3A83126F#32) (Ideal.ofBits .f32 0x00000000#32)

/-- A bit of a decided proposition is one only where the proposition holds. -/
theorem of_bit {p : Prop} [Decidable p] (h : BitVec.ofBool (decide p) = 1#1) : p := by
  by_cases hp : p
  · exact hp
  · simp [hp] at h

/-- The word of `+∞` is `⊤`. -/
theorem posInf : Ideal.ofBits .f32 0x7F800000#32 = (⊤ : EReal) := by simp [Ideal.ofBits, Ideal.ieee]

/-- The word of zero is zero. -/
theorem zeroWord : Ideal.ofBits .f32 0x00000000#32 = (0 : EReal) := by simp [Ideal.ofBits, Ideal.ieee]

/-- A number whose bit is one is real. -/
theorem real_of_finBit {x : EReal} (h : finBit x = 1#1) : IsReal x := by
  have h' := of_bit (p := max x (-x) < Ideal.ofBits .f32 0x7F800000#32) h
  rw [posInf] at h'
  exact IsReal.of_abs h'

/-- A variance whose bit is one is not zero with the small constant added. -/
theorem ne_of_regBit {v : EReal} (h : regBit v = 1#1) : v + Ideal.ofBits .f32 0x3A83126F#32 ≠ 0 := by
  have h' := of_bit (p := v + Ideal.ofBits .f32 0x3A83126F#32 ≠ Ideal.ofBits .f32 0x00000000#32) h
  rwa [zeroWord] at h'

/-- The inverse of every extended real is real: that of zero and those of the infinities are zero. -/
theorem inv_real {y : EReal} : IsReal y⁻¹ := by
  induction y with
  | bot => exact ⟨0, by simp⟩
  | coe r => exact ⟨r⁻¹, (EReal.coe_inv r).symm⟩
  | top => exact ⟨0, by simp⟩

/-- The root of a nonzero number is not zero. -/
theorem sqrt_ne {x : EReal} (h : x ≠ 0) : Ideal.sqrt x ≠ 0 := by
  induction x with
  | bot => exact EReal.bot_ne_zero
  | coe r =>
    show (if r < 0 then (⊥ : EReal) else ((Real.sqrt r : ℝ) : EReal)) ≠ 0
    split
    · exact EReal.bot_ne_zero
    · rename_i hr
      have hr0 : r ≠ 0 := fun e => h (by rw [e]; rfl)
      have hp : 0 < r := lt_of_le_of_ne (not_lt.mp hr) (Ne.symm hr0)
      exact fun e => (Real.sqrt_pos.mpr hp).ne' (by exact_mod_cast e)
  | top => exact EReal.top_ne_zero

/-- A scale is real where the gain is real and the variance plus the small constant is not zero. -/
theorem scale_real {g v : EReal} (hg : IsReal g) (hv : v + Ideal.ofBits .f32 0x3A83126F#32 ≠ 0) : IsReal (scale g v) := by
  unfold scale Ideal.div
  rw [if_neg (sqrt_ne hv)]
  exact hg.mul inv_real

/-- A conjunction of two bits is one only where both are. -/
theorem and_one : ∀ {a b : BitVec 1}, IntOp.andi a b = 1#1 → a = 1#1 ∧ b = 1#1 := by decide

/-- THE PRECONDITION makes the network of every image real. -/
theorem net_real [Cert.Pre_finite_and_regular.Facts]
    (x : FVec Ideal S8x256x128x128 .f32)
    (w1 : FVec Ideal S128x256x3x3 .f32)
    (g1 b1 m1 v1 : FVec Ideal S128 .f32)
    (w2 : FVec Ideal S128x256x3x3 .f32)
    (g2 b2 m2 v2 : FVec Ideal S128 .f32)
    (wp : FVec Ideal S256x128x3x3 .f32)
    (gp bp mp vp : FVec Ideal S256 .f32)
    (wc : FVec Ideal S256x256x1x1 .f32)
    (gc bc mc vc : FVec Ideal S256 .f32)
    (wo : FVec Ideal S256x256x3x3 .f32)
    (go bo mo vo : FVec Ideal S256 .f32)
    (h : (fn (F := Ideal) x w1 g1 b1 m1 v1 w2 g2 b2 m2 v2 wp gp bp mp vp wc gc bc mc vc wo go bo mo vo).1 = (fun _ => 1#1)
      ∧ (fn (F := Ideal) x w1 g1 b1 m1 v1 w2 g2 b2 m2 v2 wp gp bp mp vp wc gc bc mc vc wo go bo mo vo).2.1 = (fun _ => 1#1)
      ∧ (fn (F := Ideal) x w1 g1 b1 m1 v1 w2 g2 b2 m2 v2 wp gp bp mp vp wc gc bc mc vc wo go bo mo vo).2.2.1 = (fun _ => 1#1)
      ∧ (fn (F := Ideal) x w1 g1 b1 m1 v1 w2 g2 b2 m2 v2 wp gp bp mp vp wc gc bc mc vc wo go bo mo vo).2.2.2.1 = (fun _ => 1#1)
      ∧ (fn (F := Ideal) x w1 g1 b1 m1 v1 w2 g2 b2 m2 v2 wp gp bp mp vp wc gc bc mc vc wo go bo mo vo).2.2.2.2.1 = (fun _ => 1#1)
      ∧ (fn (F := Ideal) x w1 g1 b1 m1 v1 w2 g2 b2 m2 v2 wp gp bp mp vp wc gc bc mc vc wo go bo mo vo).2.2.2.2.2.1 = (fun _ => 1#1)
      ∧ (fn (F := Ideal) x w1 g1 b1 m1 v1 w2 g2 b2 m2 v2 wp gp bp mp vp wc gc bc mc vc wo go bo mo vo).2.2.2.2.2.2 = (fun _ => 1#1))
    (b : Fin 8) : (netOf x w1 g1 b1 m1 v1 w2 g2 b2 m2 v2 wp gp bp mp vp wc gc bc mc vc wo go bo mo vo b).Real := by
  obtain ⟨hx, hw, hp, hc, ho, hn, hq⟩ := h
  have kx : ∀ i : S8x256x128x128.Idx, finBit (x i) = 1#1 := fun i => congrFun hx i
  have kw : ∀ i : S128x256x3x3.Idx, IntOp.andi (finBit (w1 i)) (finBit (w2 i)) = 1#1 := fun i => congrFun hw i
  have kp : ∀ i : S256x128x3x3.Idx, finBit (wp i) = 1#1 := fun i => congrFun hp i
  have kc : ∀ i : S256x256x1x1.Idx, finBit (wc i) = 1#1 := fun i => congrFun hc i
  have ko : ∀ i : S256x256x3x3.Idx, finBit (wo i) = 1#1 := fun i => congrFun ho i
  have kn : ∀ i : S128.Idx, IntOp.andi (IntOp.andi (IntOp.andi (IntOp.andi (IntOp.andi (IntOp.andi (IntOp.andi (finBit (g1 i)) (finBit (b1 i))) (finBit (m1 i))) (finBit (g2 i))) (finBit (b2 i))) (finBit (m2 i))) (regBit (v1 i))) (regBit (v2 i)) = 1#1 := fun i => congrFun hn i
  have kq : ∀ i : S256.Idx, IntOp.andi (IntOp.andi (IntOp.andi (IntOp.andi (IntOp.andi (IntOp.andi (IntOp.andi (IntOp.andi (IntOp.andi (finBit (gp i)) (finBit (bp i))) (finBit (mp i))) (finBit (gc i))) (finBit (bc i))) (finBit (mc i))) (finBit (go i))) (regBit (vp i))) (regBit (vc i))) (regBit (vo i)) = 1#1 := fun i => congrFun hq i
  have n (o : Fin 128) := and_one (kn (ix1 o))
  have q (o : Fin 256) := and_one (kq (ix1 o))
  exact {
    x := fun c h w => real_of_finBit (kx (ix4 b c h w))
    w1 := fun o ky kx c => real_of_finBit (and_one (kw (ix4 o c ky kx))).1
    s1 := fun o => scale_real (real_of_finBit (and_one (and_one (and_one (and_one (and_one (and_one (n o).1).1).1).1).1).1).1) (ne_of_regBit (and_one (n o).1).2)
    m1 := fun o => real_of_finBit (and_one (and_one (and_one (and_one (and_one (n o).1).1).1).1).1).2
    b1 := fun o => real_of_finBit (and_one (and_one (and_one (and_one (and_one (and_one (n o).1).1).1).1).1).1).2
    w2 := fun o ky kx c => real_of_finBit (and_one (kw (ix4 o c ky kx))).2
    s2 := fun o => scale_real (real_of_finBit (and_one (and_one (and_one (and_one (n o).1).1).1).1).2) (ne_of_regBit (n o).2)
    m2 := fun o => real_of_finBit (and_one (and_one (n o).1).1).2
    b2 := fun o => real_of_finBit (and_one (and_one (and_one (n o).1).1).1).2
    wp := fun o ky kx c => real_of_finBit (kp (ix4 o c ky kx))
    sp := fun o => scale_real (real_of_finBit (and_one (and_one (and_one (and_one (and_one (and_one (and_one (and_one (q o).1).1).1).1).1).1).1).1).1) (ne_of_regBit (and_one (and_one (q o).1).1).2)
    mp := fun o => real_of_finBit (and_one (and_one (and_one (and_one (and_one (and_one (and_one (q o).1).1).1).1).1).1).1).2
    bp := fun o => real_of_finBit (and_one (and_one (and_one (and_one (and_one (and_one (and_one (and_one (q o).1).1).1).1).1).1).1).1).2
    wc := fun o c => real_of_finBit (kc (ix4 o c 0 0))
    sc := fun o => scale_real (real_of_finBit (and_one (and_one (and_one (and_one (and_one (and_one (q o).1).1).1).1).1).1).2) (ne_of_regBit (and_one (q o).1).2)
    mc := fun o => real_of_finBit (and_one (and_one (and_one (and_one (q o).1).1).1).1).2
    bc := fun o => real_of_finBit (and_one (and_one (and_one (and_one (and_one (q o).1).1).1).1).1).2
    wo := fun o ky kx c => real_of_finBit (ko (ix4 o c ky kx))
    so := fun o => scale_real (real_of_finBit (and_one (and_one (and_one (q o).1).1).1).2) (ne_of_regBit (q o).2) }

end Cert.Proof

end
-- ==== Proof.Algebraic.lean ====
module

public import proofs.«01_k».proof.Defs
public import proofs.«01_k».proof.Proof.Frames
public import proofs.«01_k».proof.Proof.Host
public import proofs.«01_k».proof.Proof.Reference
public import proofs.«01_k».proof.Proof.Regular

/-!
# The kernel and the reference end with the same result
-/

@[expose] public section

noncomputable section

namespace Cert.Proof

open Cert.Pre_finite_and_regular Idealize.ShloMosaic Idealize.ShloMosaic.TcCoe Idealize.SL.Sem Idealize.ShloMosaic.StableHlo

attribute [local instance] pre_facts

/-- Equal arrays give equal networks. -/
theorem netOf_congr
    {x x' : FVec Ideal S8x256x128x128 .f32}
    {w1 w1' : FVec Ideal S128x256x3x3 .f32}
    {g1 g1' b1 b1' m1 m1' v1 v1' : FVec Ideal S128 .f32}
    {w2 w2' : FVec Ideal S128x256x3x3 .f32}
    {g2 g2' b2 b2' m2 m2' v2 v2' : FVec Ideal S128 .f32}
    {wp wp' : FVec Ideal S256x128x3x3 .f32}
    {gp gp' bp bp' mp mp' vp vp' : FVec Ideal S256 .f32}
    {wc wc' : FVec Ideal S256x256x1x1 .f32}
    {gc gc' bc bc' mc mc' vc vc' : FVec Ideal S256 .f32}
    {wo wo' : FVec Ideal S256x256x3x3 .f32}
    {go go' bo bo' mo mo' vo vo' : FVec Ideal S256 .f32}
    (ex : x = x') (ew1 : w1 = w1') (eg1 : g1 = g1') (eb1 : b1 = b1') (em1 : m1 = m1') (ev1 : v1 = v1') (ew2 : w2 = w2') (eg2 : g2 = g2') (eb2 : b2 = b2') (em2 : m2 = m2') (ev2 : v2 = v2') (ewp : wp = wp') (egp : gp = gp') (ebp : bp = bp') (emp : mp = mp') (evp : vp = vp') (ewc : wc = wc') (egc : gc = gc') (ebc : bc = bc') (emc : mc = mc') (evc : vc = vc') (ewo : wo = wo') (ego : go = go') (ebo : bo = bo') (emo : mo = mo') (evo : vo = vo')
    (b : Fin 8) : netOf x w1 g1 b1 m1 v1 w2 g2 b2 m2 v2 wp gp bp mp vp wc gc bc mc vc wo go bo mo vo b = netOf x' w1' g1' b1' m1' v1' w2' g2' b2' m2' v2' wp' gp' bp' mp' vp' wc' gc' bc' mc' vc' wo' go' bo' mo' vo' b := by
  subst ex ew1 eg1 eb1 em1 ev1 ew2 eg2 eb2 em2 ev2 ewp egp ebp emp evp ewc egc ebc emc evc ewo ego ebo emo evo
  rfl

/-- From equal arguments of which the precondition holds, the two programs compute the same result. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (h : Cert.Pre_KernelIdeal_finite_and_regular m) (c : Dev Cert.KernelIdeal.nD)
    (hnet : ∀ b, Cert.ReferenceIdeal.Val.net (launchContents m' c) b = Cert.KernelIdeal.Val.net m c b) :
    Cert.ReferenceIdeal.Val.result (launchContents m' c)
      = (Cert.KernelIdeal.Run.W8 m ρ c (Proc.devRef .tc Cert.KernelIdeal.main_v72) : Cert.KernelIdeal.S8x256x128x128.Idx → EReal) := by
  have key (b : Fin 8) (o : Fin 256) (y x : Fin 128) : Cert.ReferenceIdeal.Val.result (launchContents m' c) (ix4 b o y x)
      = (Cert.KernelIdeal.Run.W8 m ρ c (Proc.devRef .tc Cert.KernelIdeal.main_v72) : Cert.KernelIdeal.S8x256x128x128.Idx → EReal) (ix4 b o y x) := by
    have hr : (Cert.KernelIdeal.Val.net m c b).Real :=
      net_real _ _ _ _ _ _ _ _ _ _ _ _ _ _ _ _ _ _ _ _ _ _ _ _ _ _ (h c) b
    refine (Cert.ReferenceIdeal.Val.result_apply _ b o y x).trans (Eq.trans ?_ (Cert.KernelIdeal.Val.result_apply m ρ c b o y x).symm)
    rw [hnet b, Net.outF_eq hr]
  funext i
  exact (congrArg _ (eq_ix4 i)).trans ((key (i 0) (i 1) (i 2) (i 3)).trans (congrArg _ (eq_ix4 i).symm))

/-- THE VALUE CLAIM: where the precondition holds, the kernel and the reference end with the same result and their arguments unchanged. -/
theorem algebraic_claim : Cert.algebraic_KernelIdeal_ReferenceIdeal_pre_finite_and_regular := by
  intro m g m' g' h hargs
  refine ⟨fun c => Cert.KernelIdeal.Run.W8 m g c (Proc.devRef .tc Cert.KernelIdeal.main_v72), ?_, ?_⟩
  · refine (θ_run Cert.KernelIdeal.defs _ _).mono (fun r hr c => ?_) (Cert.KernelIdeal.Run.run (F := Ideal) m g)
    refine ⟨hr.1 c _ (Cert.KernelIdeal.Run.mem_uc Cert.KernelIdeal.main_v72 (by decide)), ?_⟩
    and_intros <;> exact args_kept m g c _ (hr.1 c) _ (by decide)
  · refine (θ_run Cert.ReferenceIdeal.defs _ _).mono (fun r hr c => ⟨(hr c).1.trans ?_, (hr c).2⟩) (Cert.ReferenceIdeal.Value.run (F := Ideal) m' g')
    refine results_eq m g m' h c fun b => ?_
    obtain ⟨e0, e1, e2, e3, e4, e5, e6, e7, e8, e9, e10, e11, e12, e13, e14, e15, e16, e17, e18, e19, e20, e21, e22, e23, e24, e25⟩ := hargs c
    exact netOf_congr e0 e1 e2 e3 e4 e5 e6 e7 e8 e9 e10 e11 e12 e13 e14 e15 e16 e17 e18 e19 e20 e21 e22 e23 e24 e25 b

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- THE CLAIM of the certificate. The frames under the precondition follow from the frames without it. -/
theorem claim : Cert.Claim :=
  ⟨Cert.Kernel.Gen.facts, Cert.KernelIdeal.Gen.facts, Cert.ReferenceIdeal.Gen.facts, pre_facts, frame_Kernel, frame_KernelIdeal,
    fun m ρ _ => frame_KernelIdeal m ρ trivial, frame_ReferenceIdeal, fun m ρ _ => frame_ReferenceIdeal m ρ trivial, trivial,
    algebraic_claim⟩

end Cert.Proof

end
